-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v75_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  IdealRules.named_const.Statement Cert.Kernel6Ideal.κ "qscale" .f32 0x3E0293EE#32 (((Real.sqrt 128)⁻¹ * (Real.log 2)⁻¹ : ℝ) : EReal)
  ∧ IdealRules.named_const.Statement Cert.Kernel6Ideal.κ "neg_qscale" .f32 0xBE0293EE#32 (((-1) * ((Real.sqrt 128)⁻¹ * (Real.log 2)⁻¹) : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)) (v1 : (c : Dev Cert.Kernel6Ideal.nD) → Buf (Elt Ideal) ((c.tc : Thread Cert.Kernel6Ideal.nD Cert.Kernel6Ideal.τ).loc Cert.Kernel6Ideal.main_v4)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_v4) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v27) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v157) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x9216 : Shape := ⟨2, ![8192, 9216]⟩
abbrev S_ : Shape := ⟨0, ![]⟩

class Facts : Prop where
  bcast_S_S8192x9216 : S_.BroadcastsInDim S8192x9216 (![] : Fin 0 → Fin S8192x9216.rank)

variable [Facts]

def fn {F : FTy → Type} [FloatOps F] (main_arg0 : FVec F S8192x9216 .f32) : IVec S8192x9216 1 :=
  let main_cst : FVec F S_ .f32 := constant S_ .f32 0x7F800000#32
  let main_v0 : FVec F S8192x9216 .f32 := broadcastInDim S8192x9216 ![] bcast_S_S8192x9216 main_cst
  let main_v1 : IVec S8192x9216 1 := cmpf .olt main_arg0 main_v0
  let main_cst_0 : FVec F S_ .f32 := constant S_ .f32 0xFF800000#32
  let main_v2 : FVec F S8192x9216 .f32 := broadcastInDim S8192x9216 ![] bcast_S_S8192x9216 main_cst_0
  let main_v3 : IVec S8192x9216 1 := cmpf .ogt main_arg0 main_v2
  let main_v4 : IVec S8192x9216 1 := andi main_v1 main_v3
  main_v4
-- ==== Kernel.lean ====
abbrev S8192x9216 : Shape := ⟨2, ![8192, 9216]⟩
abbrev S1x9216 : Shape := ⟨2, ![1, 9216]⟩
abbrev S_ : Shape := ⟨0, ![]⟩
abbrev S8192x9728 : Shape := ⟨2, ![8192, 9728]⟩
abbrev S256x2048 : Shape := ⟨2, ![256, 2048]⟩
abbrev S8192x1024 : Shape := ⟨2, ![8192, 1024]⟩
abbrev S2048x128 : Shape := ⟨2, ![2048, 128]⟩
abbrev S8x256x128 : Shape := ⟨3, ![8, 256, 128]⟩
abbrev S8x128 : Shape := ⟨2, ![8, 128]⟩
abbrev S16x128 : Shape := ⟨2, ![16, 128]⟩
abbrev S16x2048 : Shape := ⟨2, ![16, 2048]⟩
abbrev S1x2048 : Shape := ⟨2, ![1, 2048]⟩
abbrev S2048x256 : Shape := ⟨2, ![2048, 256]⟩
abbrev S256x256 : Shape := ⟨2, ![256, 256]⟩
abbrev S512x256 : Shape := ⟨2, ![512, 256]⟩
abbrev S256x512 : Shape := ⟨2, ![256, 512]⟩
abbrev S768x256 : Shape := ⟨2, ![768, 256]⟩
abbrev S256x768 : Shape := ⟨2, ![256, 768]⟩
abbrev S1024x256 : Shape := ⟨2, ![1024, 256]⟩
abbrev S256x1024 : Shape := ⟨2, ![256, 1024]⟩
abbrev S1280x256 : Shape := ⟨2, ![1280, 256]⟩
abbrev S256x1280 : Shape := ⟨2, ![256, 1280]⟩
abbrev S1536x256 : Shape := ⟨2, ![1536, 256]⟩
abbrev S256x1536 : Shape := ⟨2, ![256, 1536]⟩
abbrev S1792x256 : Shape := ⟨2, ![1792, 256]⟩
abbrev S256x1792 : Shape := ⟨2, ![256, 1792]⟩
abbrev S256 : Shape := ⟨1, ![256]⟩
abbrev S256x1 : Shape := ⟨2, ![256, 1]⟩
abbrev S256x128 : Shape := ⟨2, ![256, 128]⟩
abbrev S512x128 : Shape := ⟨2, ![512, 128]⟩
abbrev S768x128 : Shape := ⟨2, ![768, 128]⟩
abbrev S1024x128 : Shape := ⟨2, ![1024, 128]⟩
abbrev S1280x128 : Shape := ⟨2, ![1280, 128]⟩
abbrev S1536x128 : Shape := ⟨2, ![1536, 128]⟩
abbrev S1792x128 : Shape := ⟨2, ![1792, 128]⟩
abbrev S128x128 : Shape := ⟨2, ![128, 128]⟩
abbrev S1920x128 : Shape := ⟨2, ![1920, 128]⟩
abbrev S5760x128 : Shape := ⟨2, ![5760, 128]⟩
abbrev S3712x128 : Shape := ⟨2, ![3712, 128]⟩
abbrev S5760x256 : Shape := ⟨2, ![5760, 256]⟩
abbrev S5760x1 : Shape := ⟨2, ![5760, 1]⟩
abbrev S2048x1 : Shape := ⟨2, ![2048, 1]⟩
abbrev S1920x1 : Shape := ⟨2, ![1920, 1]⟩
abbrev S1792x1 : Shape := ⟨2, ![1792, 1]⟩
abbrev S128x256 : Shape := ⟨2, ![128, 256]⟩
abbrev S128x384 : Shape := ⟨2, ![128, 384]⟩
abbrev S384x128 : Shape := ⟨2, ![384, 128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S384x256 : Shape := ⟨2, ![384, 256]⟩
abbrev S128x512 : Shape := ⟨2, ![128, 512]⟩
abbrev S640x128 : Shape := ⟨2, ![640, 128]⟩
abbrev S128x640 : Shape := ⟨2, ![128, 640]⟩
abbrev S640x256 : Shape := ⟨2, ![640, 256]⟩
abbrev S128x768 : Shape := ⟨2, ![128, 768]⟩
abbrev S896x128 : Shape := ⟨2, ![896, 128]⟩
abbrev S128x896 : Shape := ⟨2, ![128, 896]⟩
abbrev S896x256 : Shape := ⟨2, ![896, 256]⟩
abbrev S128x1024 : Shape := ⟨2, ![128, 1024]⟩
abbrev S1152x128 : Shape := ⟨2, ![1152, 128]⟩
abbrev S128x1152 : Shape := ⟨2, ![128, 1152]⟩
abbrev S1152x256 : Shape := ⟨2, ![1152, 256]⟩
abbrev S128x1280 : Shape := ⟨2, ![128, 1280]⟩
abbrev S1408x128 : Shape := ⟨2, ![1408, 128]⟩
abbrev S128x1408 : Shape := ⟨2, ![128, 1408]⟩
abbrev S1408x256 : Shape := ⟨2, ![1408, 256]⟩
abbrev S128x1536 : Shape := ⟨2, ![128, 1536]⟩
abbrev S1664x128 : Shape := ⟨2, ![1664, 128]⟩
abbrev S128x1664 : Shape := ⟨2, ![128, 1664]⟩
abbrev S1664x256 : Shape := ⟨2, ![1664, 256]⟩

abbrev nBuf : Space → Nat
  | .hbm => 104
  | .vmem => 26
  | .smem => 0
  | _ => 0

abbrev bufTy : (tb : Table) → Fin (tcTables nBuf tb) → BufTy
  | .hbm, ⟨0, _⟩ => ⟨S8192x9216, .f32⟩
  | .hbm, ⟨1, _⟩ => ⟨S1x9216, .i32⟩
  | .hbm, ⟨2, _⟩ => ⟨S_, .i32⟩
  | .hbm, ⟨3, _⟩ => ⟨S1x9216, .i32⟩
  | .hbm, ⟨4, _⟩ => ⟨S1x9216, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .i32⟩
  | .hbm, ⟨13, _⟩ => ⟨S1x9216, .i32⟩
  | .hbm, ⟨14, _⟩ => ⟨S1x9216, .i1⟩
  | .hbm, ⟨15, _⟩ => ⟨S_, .i32⟩
  | .hbm, ⟨16, _⟩ => ⟨S1x9216, .i32⟩
  | .hbm, ⟨17, _⟩ => ⟨S1x9216, .i1⟩
  | .hbm, ⟨18, _⟩ => ⟨S1x9216, .i1⟩
  | .hbm, ⟨19, _⟩ => ⟨S1x9216, .f32⟩
  | .hbm, ⟨20, _⟩ => ⟨S_, .i32⟩
  | .hbm, ⟨21, _⟩ => ⟨S1x9216, .i32⟩
  | .hbm, ⟨22, _⟩ => ⟨S1x9216, .i1⟩
  | .hbm, ⟨23, _⟩ => ⟨S1x9216, .f32⟩
  | .hbm, ⟨24, _⟩ => ⟨S1x9216, .f32⟩
  | .hbm, ⟨25, _⟩ => ⟨S1x9216, .f32⟩
  | .hbm, ⟨26, _⟩ => ⟨S1x9216, .f32⟩
  | .hbm, ⟨27, _⟩ => ⟨S1x9216, .f32⟩
  | .hbm, ⟨28, _⟩ => ⟨S1x9216, .f32⟩
  | .hbm, ⟨29, _⟩ => ⟨S_, .f32⟩
  | .hbm, ⟨30, _⟩ => ⟨S1x9216, .f32⟩
  | .hbm, ⟨31, _⟩ => ⟨S1x9216, .f32⟩
  | .hbm, ⟨32, _⟩ => ⟨S1x9216, .f32⟩
  | .hbm, ⟨33, _⟩ => ⟨S1x9216, .f32⟩
  | .hbm, ⟨34, _⟩ => ⟨S8192x9216, .f32⟩
  | .hbm, ⟨35, _⟩ => ⟨S8192x9216, .f32⟩
  | .hbm, ⟨36, _⟩ => ⟨S8192x9216, .bf16⟩
  | .hbm, ⟨37, _⟩ => ⟨S_, .i32⟩
  | .hbm, ⟨38, _⟩ => ⟨S_, .bf16⟩
  | .hbm, ⟨39, _⟩ => ⟨S8192x9728, .bf16⟩
  | .hbm, ⟨40, _⟩ => ⟨S256x2048, .i32⟩
  | .hbm, ⟨41, _⟩ => ⟨S256x2048, .i32⟩
  | .hbm, ⟨42, _⟩ => ⟨S256x2048, .i32⟩
  | .hbm, ⟨43, _⟩ => ⟨S_, .i32⟩
  | .hbm, ⟨44, _⟩ => ⟨S256x2048, .i32⟩
  | .hbm, ⟨45, _⟩ => ⟨S256x2048, .i32⟩
  | .hbm, ⟨46, _⟩ => ⟨S_, .f32⟩
  | .hbm, ⟨47, _⟩ => ⟨S256x2048, .f32⟩
  | .hbm, ⟨48, _⟩ => ⟨S_, .i32⟩
  | .hbm, ⟨49, _⟩ => ⟨S256x2048, .i32⟩
  | .hbm, ⟨50, _⟩ => ⟨S256x2048, .i1⟩
  | .hbm, ⟨51, _⟩ => ⟨S_, .i32⟩
  | .hbm, ⟨52, _⟩ => ⟨S256x2048, .i32⟩
  | .hbm, ⟨53, _⟩ => ⟨S256x2048, .i32⟩
  | .hbm, ⟨54, _⟩ => ⟨S_, .i32⟩
  | .hbm, ⟨55, _⟩ => ⟨S256x2048, .i32⟩
  | .hbm, ⟨56, _⟩ => ⟨S256x2048, .i1⟩
  | .hbm, ⟨57, _⟩ => ⟨S256x2048, .i1⟩
  | .hbm, ⟨58, _⟩ => ⟨S_, .i32⟩
  | .hbm, ⟨59, _⟩ => ⟨S256x2048, .i32⟩
  | .hbm, ⟨60, _⟩ => ⟨S256x2048, .i1⟩
  | .hbm, ⟨61, _⟩ => ⟨S256x2048, .i1⟩
  | .hbm, ⟨62, _⟩ => ⟨S256x2048, .f32⟩
  | .hbm, ⟨63, _⟩ => ⟨S256x2048, .f32⟩
  | .hbm, ⟨64, _⟩ => ⟨S_, .i32⟩
  | .hbm, ⟨65, _⟩ => ⟨S256x2048, .i32⟩
  | .hbm, ⟨66, _⟩ => ⟨S256x2048, .i1⟩
  | .hbm, ⟨67, _⟩ => ⟨S_, .i32⟩
  | .hbm, ⟨68, _⟩ => ⟨S256x2048, .i32⟩
  | .hbm, ⟨69, _⟩ => ⟨S256x2048, .i32⟩
  | .hbm, ⟨70, _⟩ => ⟨S_, .i32⟩
  | .hbm, ⟨71, _⟩ => ⟨S256x2048, .i32⟩
  | .hbm, ⟨72, _⟩ => ⟨S256x2048, .i1⟩
  | .hbm, ⟨73, _⟩ => ⟨S256x2048, .i1⟩
  | .hbm, ⟨74, _⟩ => ⟨S_, .i32⟩
  | .hbm, ⟨75, _⟩ => ⟨S256x2048, .i32⟩
  | .hbm, ⟨76, _⟩ => ⟨S256x2048, .i1⟩
  | .hbm, ⟨77, _⟩ => ⟨S256x2048, .i1⟩
  | .hbm, ⟨78, _⟩ => ⟨S256x2048, .f32⟩
  | .hbm, ⟨79, _⟩ => ⟨S256x2048, .f32⟩
  | .hbm, ⟨80, _⟩ => ⟨S_, .i32⟩
  | .hbm, ⟨81, _⟩ => ⟨S256x2048, .i32⟩
  | .hbm, ⟨82, _⟩ => ⟨S256x2048, .i1⟩
  | .hbm, ⟨83, _⟩ => ⟨S_, .i32⟩
  | .hbm, ⟨84, _⟩ => ⟨S256x2048, .i32⟩
  | .hbm, ⟨85, _⟩ => ⟨S256x2048, .i32⟩
  | .hbm, ⟨86, _⟩ => ⟨S_, .i32⟩
  | .hbm, ⟨87, _⟩ => ⟨S256x2048, .i32⟩
  | .hbm, ⟨88, _⟩ => ⟨S256x2048, .i1⟩
  | .hbm, ⟨89, _⟩ => ⟨S256x2048, .i1⟩
  | .hbm, ⟨90, _⟩ => ⟨S_, .i32⟩
  | .hbm, ⟨91, _⟩ => ⟨S256x2048, .i32⟩
  | .hbm, ⟨92, _⟩ => ⟨S256x2048, .i1⟩
  | .hbm, ⟨93, _⟩ => ⟨S256x2048, .i1⟩
  | .hbm, ⟨94, _⟩ => ⟨S256x2048, .f32⟩
  | .hbm, ⟨95, _⟩ => ⟨S256x2048, .f32⟩
  | .hbm, ⟨96, _⟩ => ⟨S256x2048, .f32⟩
  | .hbm, ⟨97, _⟩ => ⟨S_, .f32⟩
  | .hbm, ⟨98, _⟩ => ⟨S_, .f32⟩
  | .hbm, ⟨99, _⟩ => ⟨S256x2048, .f32⟩
  | .hbm, ⟨100, _⟩ => ⟨S256x2048, .f32⟩
  | .hbm, ⟨101, _⟩ => ⟨S8192x1024, .bf16⟩
  | .hbm, ⟨102, _⟩ => ⟨S8192x1024, .bf16⟩
  | .hbm, ⟨103, _⟩ => ⟨S8192x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S256x2048, .f32⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_call0_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_c_9 : Ref sig .tc := ⟨.hbm, 48, rfl⟩
abbrev main_v35 : Ref sig .tc := ⟨.hbm, 49, rfl⟩
abbrev main_v36 : Ref sig .tc := ⟨.hbm, 50, rfl⟩
abbrev main_c_10 : Ref sig .tc := ⟨.hbm, 51, rfl⟩
abbrev main_v37 : Ref sig .tc := ⟨.hbm, 52, rfl⟩
abbrev main_v38 : Ref sig .tc := ⟨.hbm, 53, rfl⟩
abbrev main_c_11 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_12 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_13 : Ref sig .tc := ⟨.hbm, 64, rfl⟩
abbrev main_v47 : Ref sig .tc := ⟨.hbm, 65, rfl⟩
abbrev main_v48 : Ref sig .tc := ⟨.hbm, 66, rfl⟩
abbrev main_c_14 : Ref sig .tc := ⟨.hbm, 67, rfl⟩
abbrev main_v49 : Ref sig .tc := ⟨.hbm, 68, rfl⟩
abbrev main_v50 : Ref sig .tc := ⟨.hbm, 69, rfl⟩
abbrev main_c_15 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_16 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_17 : Ref sig .tc := ⟨.hbm, 80, rfl⟩
abbrev main_v59 : Ref sig .tc := ⟨.hbm, 81, rfl⟩
abbrev main_v60 : Ref sig .tc := ⟨.hbm, 82, rfl⟩
abbrev main_c_18 : Ref sig .tc := ⟨.hbm, 83, rfl⟩
abbrev main_v61 : Ref sig .tc := ⟨.hbm, 84, rfl⟩
abbrev main_v62 : Ref sig .tc := ⟨.hbm, 85, rfl⟩
abbrev main_c_19 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_20 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_21 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75_0 : Ref sig .tc := ⟨.hbm, 101, rfl⟩
abbrev main_v75_1 : Ref sig .tc := ⟨.hbm, 102, rfl⟩
abbrev main_v75_2 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8192x9216 : Shape := ⟨2, ![8192, 9216]⟩
abbrev S8192x1024 : Shape := ⟨2, ![8192, 1024]⟩
abbrev S4x2048x8x128 : Shape := ⟨4, ![4, 2048, 8, 128]⟩
abbrev S4x8x2048x128 : Shape := ⟨4, ![4, 8, 2048, 128]⟩
abbrev S4x8x2048x2048 : Shape := ⟨4, ![4, 8, 2048, 2048]⟩
abbrev S_ : Shape := ⟨0, ![]⟩
abbrev S2048x2048 : Shape := ⟨2, ![2048, 2048]⟩
abbrev S4x8x2048 : Shape := ⟨3, ![4, 8, 2048]⟩
abbrev S4x8x2048x1 : Shape := ⟨4, ![4, 8, 2048, 1]⟩

abbrev nBuf : Space → Nat
  | .hbm => 146
  | .vmem => 0
  | .smem => 0
  | _ => 0

abbrev hbmTy0_0 (i : Nat) : BufTy := match i % 128 with
  | 0 => ⟨S8192x9216, .f32⟩
  | 1 => ⟨S8192x1024, .f32⟩
  | 2 => ⟨S4x2048x8x128, .f32⟩
  | 3 => ⟨S4x8x2048x128, .f32⟩
  | 4 => ⟨S8192x1024, .f32⟩
  | 5 => ⟨S4x2048x8x128, .f32⟩
  | 6 => ⟨S4x8x2048x128, .f32⟩
  | 7 => ⟨S8192x1024, .f32⟩
  | 8 => ⟨S4x2048x8x128, .f32⟩
  | 9 => ⟨S4x8x2048x128, .f32⟩
  | 10 => ⟨S4x8x2048x2048, .f32⟩
  | 11 => ⟨S_, .f32⟩
  | 12 => ⟨S_, .f32⟩
  | 13 => ⟨S_, .f32⟩
  | 14 => ⟨S_, .f32⟩
  | 15 => ⟨S4x8x2048x2048, .f32⟩
  | 16 => ⟨S4x8x2048x2048, .f32⟩
  | 17 => ⟨S2048x2048, .i32⟩
  | 18 => ⟨S2048x2048, .i32⟩
  | 19 => ⟨S2048x2048, .i32⟩
  | 20 => ⟨S_, .i32⟩
  | 21 => ⟨S2048x2048, .i32⟩
  | 22 => ⟨S2048x2048, .i1⟩
  | 23 => ⟨S_, .i32⟩
  | 24 => ⟨S2048x2048, .i32⟩
  | 25 => ⟨S2048x2048, .i32⟩
  | 26 => ⟨S_, .i32⟩
  | 27 => ⟨S2048x2048, .i32⟩
  | 28 => ⟨S2048x2048, .i1⟩
  | 29 => ⟨S2048x2048, .i1⟩
  | 30 => ⟨S_, .i32⟩
  | 31 => ⟨S2048x2048, .i32⟩
  | 32 => ⟨S2048x2048, .i1⟩
  | 33 => ⟨S2048x2048, .i1⟩
  | 34 => ⟨S4x8x2048x2048, .i1⟩
  | 35 => ⟨S_, .f32⟩
  | 36 => ⟨S4x8x2048x2048, .f32⟩
  | 37 => ⟨S4x8x2048x2048, .f32⟩
  | 38 => ⟨S_, .f32⟩
  | 39 => ⟨S4x8x2048, .f32⟩
  | 40 => ⟨S4x8x2048x1, .f32⟩
  | 41 => ⟨S4x8x2048x2048, .f32⟩
  | 42 => ⟨S4x8x2048x2048, .f32⟩
  | 43 => ⟨S4x8x2048x2048, .f32⟩
  | 44 => ⟨S_, .f32⟩
  | 45 => ⟨S4x8x2048, .f32⟩
  | 46 => ⟨S4x8x2048, .f32⟩
  | 47 => ⟨S4x8x2048, .f32⟩
  | 48 => ⟨S4x8x2048x1, .f32⟩
  | 49 => ⟨S4x8x2048x2048, .f32⟩
  | 50 => ⟨S4x8x2048x2048, .f32⟩
  | 51 => ⟨S4x8x2048x2048, .f32⟩
  | 52 => ⟨S4x8x2048x128, .f32⟩
  | 53 => ⟨S_, .i32⟩
  | 54 => ⟨S2048x2048, .i32⟩
  | 55 => ⟨S2048x2048, .i1⟩
  | 56 => ⟨S_, .i32⟩
  | 57 => ⟨S2048x2048, .i32⟩
  | 58 => ⟨S2048x2048, .i32⟩
  | 59 => ⟨S_, .i32⟩
  | 60 => ⟨S2048x2048, .i32⟩
  | 61 => ⟨S2048x2048, .i1⟩
  | 62 => ⟨S2048x2048, .i1⟩
  | 63 => ⟨S_, .i32⟩
  | 64 => ⟨S2048x2048, .i32⟩
  | 65 => ⟨S2048x2048, .i1⟩
  | 66 => ⟨S2048x2048, .i1⟩
  | 67 => ⟨S4x8x2048x2048, .i1⟩
  | 68 => ⟨S_, .f32⟩
  | 69 => ⟨S4x8x2048x2048, .f32⟩
  | 70 => ⟨S4x8x2048x2048, .f32⟩
  | 71 => ⟨S_, .f32⟩
  | 72 => ⟨S4x8x2048, .f32⟩
  | 73 => ⟨S4x8x2048x1, .f32⟩
  | 74 => ⟨S4x8x2048x2048, .f32⟩
  | 75 => ⟨S4x8x2048x2048, .f32⟩
  | 76 => ⟨S4x8x2048x2048, .f32⟩
  | 77 => ⟨S_, .f32⟩
  | 78 => ⟨S4x8x2048, .f32⟩
  | 79 => ⟨S4x8x2048, .f32⟩
  | 80 => ⟨S4x8x2048, .f32⟩
  | 81 => ⟨S4x8x2048x1, .f32⟩
  | 82 => ⟨S4x8x2048x2048, .f32⟩
  | 83 => ⟨S4x8x2048x2048, .f32⟩
  | 84 => ⟨S4x8x2048x2048, .f32⟩
  | 85 => ⟨S4x8x2048x128, .f32⟩
  | 86 => ⟨S_, .i32⟩
  | 87 => ⟨S2048x2048, .i32⟩
  | 88 => ⟨S2048x2048, .i1⟩
  | 89 => ⟨S_, .i32⟩
  | 90 => ⟨S2048x2048, .i32⟩
  | 91 => ⟨S2048x2048, .i32⟩
  | 92 => ⟨S_, .i32⟩
  | 93 => ⟨S2048x2048, .i32⟩
  | 94 => ⟨S2048x2048, .i1⟩
  | 95 => ⟨S2048x2048, .i1⟩
  | 96 => ⟨S_, .i32⟩
  | 97 => ⟨S2048x2048, .i32⟩
  | 98 => ⟨S2048x2048, .i1⟩
  | 99 => ⟨S2048x2048, .i1⟩
  | 100 => ⟨S4x8x2048x2048, .i1⟩
  | 101 => ⟨S_, .f32⟩
  | 102 => ⟨S4x8x2048x2048, .f32⟩
  | 103 => ⟨S4x8x2048x2048, .f32⟩
  | 104 => ⟨S_, .f32⟩
  | 105 => ⟨S4x8x2048, .f32⟩
  | 106 => ⟨S4x8x2048x1, .f32⟩
  | 107 => ⟨S4x8x2048x2048, .f32⟩
  | 108 => ⟨S4x8x2048x2048, .f32⟩
  | 109 => ⟨S4x8x2048x2048, .f32⟩
  | 110 => ⟨S_, .f32⟩
  | 111 => ⟨S4x8x2048, .f32⟩
  | 112 => ⟨S4x8x2048, .f32⟩
  | 113 => ⟨S4x8x2048, .f32⟩
  | 114 => ⟨S4x8x2048x1, .f32⟩
  | 115 => ⟨S4x8x2048x2048, .f32⟩
  | 116 => ⟨S4x8x2048x2048, .f32⟩
  | 117 => ⟨S4x8x2048x2048, .f32⟩
  | 118 => ⟨S4x8x2048x128, .f32⟩
  | 119 => ⟨S4x8x2048, .f32⟩
  | 120 => ⟨S4x8x2048, .f32⟩
  | 121 => ⟨S4x8x2048, .f32⟩
  | 122 => ⟨S4x8x2048, .f32⟩
  | 123 => ⟨S4x8x2048, .f32⟩
  | 124 => ⟨S4x8x2048, .f32⟩
  | 125 => ⟨S4x8x2048, .f32⟩
  | 126 => ⟨S4x8x2048, .f32⟩
  | 127 => ⟨S4x8x2048, .f32⟩
  | _ => ⟨S8192x9216, .f32⟩

abbrev hbmTy0_1 (i : Nat) : BufTy := match i % 128 with
  | 0 => ⟨S4x8x2048, .f32⟩
  | 1 => ⟨S4x8x2048, .f32⟩
  | 2 => ⟨S4x8x2048x1, .f32⟩
  | 3 => ⟨S4x8x2048x128, .f32⟩
  | 4 => ⟨S4x8x2048x128, .f32⟩
  | 5 => ⟨S4x8x2048, .f32⟩
  | 6 => ⟨S4x8x2048x1, .f32⟩
  | 7 => ⟨S4x8x2048x128, .f32⟩
  | 8 => ⟨S4x8x2048x128, .f32⟩
  | 9 => ⟨S4x8x2048x128, .f32⟩
  | 10 => ⟨S4x8x2048, .f32⟩
  | 11 => ⟨S4x8x2048x1, .f32⟩
  | 12 => ⟨S4x8x2048x128, .f32⟩
  | 13 => ⟨S4x8x2048x128, .f32⟩
  | 14 => ⟨S4x8x2048x128, .f32⟩
  | 15 => ⟨S4x2048x8x128, .f32⟩
  | 16 => ⟨S8192x1024, .f32⟩
  | 17 => ⟨S8192x1024, .bf16⟩
  | _ => ⟨S8192x9216, .f32⟩

abbrev hbmTy (i : Nat) : BufTy := match i / 128 with
  | 0 => hbmTy0_0 i
  | 1 => hbmTy0_1 i
  | _ => ⟨S8192x9216, .f32⟩

abbrev bufTy : (tb : Table) → Fin (tcTables nBuf tb) → BufTy
  | .hbm, ⟨i, _⟩ => hbmTy i
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_c_1 : Ref sig .tc := ⟨.hbm, 23, rfl⟩
abbrev main_v19 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_7 : Ref sig .tc := ⟨.hbm, 53, rfl⟩
abbrev main_v43 : Ref sig .tc := ⟨.hbm, 54, rfl⟩
abbrev main_v44 : Ref sig .tc := ⟨.hbm, 55, rfl⟩
abbrev main_c_8 : Ref sig .tc := ⟨.hbm, 56, rfl⟩
abbrev main_v45 : Ref sig .tc := ⟨.hbm, 57, rfl⟩
abbrev main_v46 : Ref sig .tc := ⟨.hbm, 58, rfl⟩
abbrev main_c_9 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_10 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_v55 : Ref sig .tc := ⟨.hbm, 70, rfl⟩
abbrev main_cst_12 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_13 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c_14 : Ref sig .tc := ⟨.hbm, 86, rfl⟩
abbrev main_v69 : Ref sig .tc := ⟨.hbm, 87, rfl⟩
abbrev main_v70 : Ref sig .tc := ⟨.hbm, 88, rfl⟩
abbrev main_c_15 : Ref sig .tc := ⟨.hbm, 89, rfl⟩
abbrev main_v71 : Ref sig .tc := ⟨.hbm, 90, rfl⟩
abbrev main_v72 : Ref sig .tc := ⟨.hbm, 91, rfl⟩
abbrev main_c_16 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_17 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_18 : Ref sig .tc := ⟨.hbm, 101, rfl⟩
abbrev main_v80 : Ref sig .tc := ⟨.hbm, 102, rfl⟩
abbrev main_v81 : Ref sig .tc := ⟨.hbm, 103, rfl⟩
abbrev main_cst_19 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_20 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩

abbrev nD : Nat := 1
abbrev τ : Topo := Topo.v7x

variable {F : FTy → Type} [FloatOps F]
-- ==== Kernel2.lean ====
abbrev S8192x4096 : Shape := ⟨2, ![8192, 4096]⟩
abbrev S2x4096x11008 : Shape := ⟨3, ![2, 4096, 11008]⟩
abbrev S2x11008x4096 : Shape := ⟨3, ![2, 11008, 4096]⟩
abbrev S8192x11008 : Shape := ⟨2, ![8192, 11008]⟩
abbrev S11008x4096 : Shape := ⟨2, ![11008, 4096]⟩
abbrev S1024x4096 : Shape := ⟨2, ![1024, 4096]⟩
abbrev S1x4096x256 : Shape := ⟨3, ![1, 4096, 256]⟩
abbrev S1x32x4096 : Shape := ⟨3, ![1, 32, 4096]⟩
abbrev S1024x256 : Shape := ⟨2, ![1024, 256]⟩
abbrev S32x4096 : Shape := ⟨2, ![32, 4096]⟩
abbrev S4096x256 : Shape := ⟨2, ![4096, 256]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S8192x4096, .bf16⟩
  | .hbm, ⟨5, _⟩ => ⟨S8192x11008, .bf16⟩
  | .hbm, ⟨6, _⟩ => ⟨S11008x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x32x4096, .f32⟩
  | .local _ .vmem, ⟨7, _⟩ => ⟨S1x32x4096, .f32⟩
  | .local _ .vmem, ⟨8, _⟩ => ⟨S1024x256, .bf16⟩
  | .local _ .vmem, ⟨9, _⟩ => ⟨S1024x256, .bf16⟩
  | .local _ .vmem, ⟨10, _⟩ => ⟨S32x4096, .bf16⟩
  | .local _ .vmem, ⟨11, _⟩ => ⟨S32x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x4096 : Shape := ⟨2, ![8192, 4096]⟩
abbrev S2x4096x11008 : Shape := ⟨3, ![2, 4096, 11008]⟩
abbrev S2x11008x4096 : Shape := ⟨3, ![2, 11008, 4096]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩
abbrev S1x11008x4096 : Shape := ⟨3, ![1, 11008, 4096]⟩
abbrev S11008x4096 : Shape := ⟨2, ![11008, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S1x4096x11008, .f32⟩
  | .hbm, ⟨5, _⟩ => ⟨S4096x11008, .f32⟩
  | .hbm, ⟨6, _⟩ => ⟨S8192x11008, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S8192x11008, .f32⟩
  | .hbm, ⟨13, _⟩ => ⟨S1x4096x11008, .f32⟩
  | .hbm, ⟨14, _⟩ => ⟨S4096x11008, .f32⟩
  | .hbm, ⟨15, _⟩ => ⟨S8192x11008, .f32⟩
  | .hbm, ⟨16, _⟩ => ⟨S8192x11008, .f32⟩
  | .hbm, ⟨17, _⟩ => ⟨S8192x11008, .bf16⟩
  | .hbm, ⟨18, _⟩ => ⟨S1x11008x4096, .f32⟩
  | .hbm, ⟨19, _⟩ => ⟨S11008x4096, .f32⟩
  | .hbm, ⟨20, _⟩ => ⟨S11008x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel3.lean ====
abbrev S8192x11008 : Shape := ⟨2, ![8192, 11008]⟩
abbrev S11008x4096 : Shape := ⟨2, ![11008, 4096]⟩
abbrev S8192x4096 : Shape := ⟨2, ![8192, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x11008, .bf16⟩
  | .hbm, ⟨3, _⟩ => ⟨S11008x4096, .bf16⟩
  | .hbm, ⟨4, _⟩ => ⟨S8192x4096, .bf16⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .bf16⟩
  | .local _ .vmem, ⟨5, _⟩ => ⟨S512x512, .bf16⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x4096, .f32⟩
  | .hbm, ⟨3, _⟩ => ⟨S8192x4096, .bf16⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .bf16⟩
  | .hbm, ⟨7, _⟩ => ⟨S8192x4096, .bf16⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S8192x4096, .f32⟩
  | .hbm, ⟨12, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x4096, .f32⟩
  | .hbm, ⟨52, _⟩ => ⟨S8192x4096, .f32⟩
  | .hbm, ⟨53, _⟩ => ⟨S1x4096, .f32⟩
  | .hbm, ⟨54, _⟩ => ⟨S8192x4096, .f32⟩
  | .hbm, ⟨55, _⟩ => ⟨S8192x4096, .f32⟩
  | .hbm, ⟨56, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel5.lean ====
abbrev S8192x1024 : Shape := ⟨2, ![8192, 1024]⟩
abbrev S4096 : Shape := ⟨1, ![4096]⟩
abbrev S2x4096x4096 : Shape := ⟨3, ![2, 4096, 4096]⟩
abbrev S1x4096 : Shape := ⟨2, ![1, 4096]⟩
abbrev S8192x4096 : Shape := ⟨2, ![8192, 4096]⟩
abbrev S1024x1024 : Shape := ⟨2, ![1024, 1024]⟩
abbrev S1x4096x512 : Shape := ⟨3, ![1, 4096, 512]⟩
abbrev S1024x512 : Shape := ⟨2, ![1024, 512]⟩
abbrev S1024x4096 : Shape := ⟨2, ![1024, 4096]⟩
abbrev S1024 : Shape := ⟨1, ![1024]⟩
abbrev S1024x1 : Shape := ⟨2, ![1024, 1]⟩
abbrev S1x1024 : Shape := ⟨2, ![1, 1024]⟩
abbrev S4096x512 : Shape := ⟨2, ![4096, 512]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4096, .f32⟩
  | .hbm, ⟨5, _⟩ => ⟨S2x4096x4096, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S2x4096x4096, .bf16⟩
  | .hbm, ⟨11, _⟩ => ⟨S1x4096, .f32⟩
  | .hbm, ⟨12, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x4096, .f32⟩
  | .local _ .vmem, ⟨9, _⟩ => ⟨S1x4096x512, .bf16⟩
  | .local _ .vmem, ⟨10, _⟩ => ⟨S1x4096x512, .bf16⟩
  | .local _ .vmem, ⟨11, _⟩ => ⟨S1024x512, .bf16⟩
  | .local _ .vmem, ⟨12, _⟩ => ⟨S1024x512, .bf16⟩
  | .local _ .vmem, ⟨13, _⟩ => ⟨S1024x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8192x1024 : Shape := ⟨2, ![8192, 1024]⟩
abbrev S4096 : Shape := ⟨1, ![4096]⟩
abbrev S2x4096x4096 : Shape := ⟨3, ![2, 4096, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4096, .f32⟩
  | .hbm, ⟨5, _⟩ => ⟨S2x4096x4096, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x4096, .f32⟩
  | .hbm, ⟨75, _⟩ => ⟨S1x4096x4096, .f32⟩
  | .hbm, ⟨76, _⟩ => ⟨S4096x4096, .f32⟩
  | .hbm, ⟨77, _⟩ => ⟨S8192x4096, .f32⟩
  | .hbm, ⟨78, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel6.lean ====
abbrev S8192x4096 : Shape := ⟨2, ![8192, 4096]⟩
abbrev S2x4096x10240 : Shape := ⟨3, ![2, 4096, 10240]⟩
abbrev S2x4096x4096 : Shape := ⟨3, ![2, 4096, 4096]⟩
abbrev S8192x9728 : Shape := ⟨2, ![8192, 9728]⟩
abbrev S8192x1536 : Shape := ⟨2, ![8192, 1536]⟩
abbrev S1024x4096 : Shape := ⟨2, ![1024, 4096]⟩
abbrev S1x4096x512 : Shape := ⟨3, ![1, 4096, 512]⟩
abbrev S64x4096 : Shape := ⟨2, ![64, 4096]⟩
abbrev S1024x512 : Shape := ⟨2, ![1024, 512]⟩
abbrev S4096x512 : Shape := ⟨2, ![4096, 512]⟩
abbrev S8192x9216 : Shape := ⟨2, ![8192, 9216]⟩
abbrev S8192x1024 : Shape := ⟨2, ![8192, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S2x4096x10240, .f32⟩
  | .hbm, ⟨2, _⟩ => ⟨S2x4096x4096, .f32⟩
  | .hbm, ⟨3, _⟩ => ⟨S8192x4096, .bf16⟩
  | .hbm, ⟨4, _⟩ => ⟨S8192x4096, .f32⟩
  | .hbm, ⟨5, _⟩ => ⟨S8192x9728, .bf16⟩
  | .hbm, ⟨6, _⟩ => ⟨S8192x1536, .f32⟩
  | .hbm, ⟨7, _⟩ => ⟨S8192x4096, .bf16⟩
  | .hbm, ⟨8, _⟩ => ⟨S8192x9216, .bf16⟩
  | .hbm, ⟨9, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S64x4096, .f32⟩
  | .local _ .vmem, ⟨5, _⟩ => ⟨S64x4096, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S64x4096, .bf16⟩
  | .local _ .vmem, ⟨11, _⟩ => ⟨S64x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.minsi arg1 c18_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 1 := Scalar.cmpi .slt arg1 c18_i32
  let c18_i32_0 : BitVec 32 := 18#32
  let v1 : BitVec 32 := Scalar.subi arg1 c18_i32_0
  let c2_i32 : BitVec 32 := 2#32
  let v2 : BitVec 32 := Scalar.select v0 c2_i32 v1
  let c0_i32 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel6Ideal.lean ====
variable {F : FTy → Type} [FloatOps F] [Named F]
def κ : String → Option EReal := fun
  | "neg_qscale" => some (((-1) * ((Real.sqrt 128)⁻¹ * (Real.log 2)⁻¹) : ℝ) : EReal)
  | "qscale" => some (((Real.sqrt 128)⁻¹ * (Real.log 2)⁻¹ : ℝ) : EReal)
  | _ => none
-- ==== Reference6Ideal.lean ====
abbrev S8192x4096 : Shape := ⟨2, ![8192, 4096]⟩
abbrev S2x4096x10240 : Shape := ⟨3, ![2, 4096, 10240]⟩
abbrev S2x4096x4096 : Shape := ⟨3, ![2, 4096, 4096]⟩
abbrev S1x4096x10240 : Shape := ⟨3, ![1, 4096, 10240]⟩
abbrev S4096x10240 : Shape := ⟨2, ![4096, 10240]⟩
abbrev S8192x10240 : Shape := ⟨2, ![8192, 10240]⟩
abbrev S_ : Shape := ⟨0, ![]⟩
abbrev S8192x1024 : Shape := ⟨2, ![8192, 1024]⟩
abbrev S8192x9216 : Shape := ⟨2, ![8192, 9216]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x10240, .f32⟩
  | .hbm, ⟨2, _⟩ => ⟨S2x4096x4096, .f32⟩
  | .hbm, ⟨3, _⟩ => ⟨S1x4096x10240, .f32⟩
  | .hbm, ⟨4, _⟩ => ⟨S4096x10240, .f32⟩
  | .hbm, ⟨5, _⟩ => ⟨S8192x10240, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x9216, .f32⟩
  | .hbm, ⟨30, _⟩ => ⟨S8192x9216, .bf16⟩
  | .hbm, ⟨31, _⟩ => ⟨S8192x1024, .f32⟩
  | .hbm, ⟨32, _⟩ => ⟨S8192x4096, .f32⟩
  | .hbm, ⟨33, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel7.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S8192x4096, .bf16⟩
  | .hbm, ⟨5, _⟩ => ⟨S1x4096, .f32⟩
  | .hbm, ⟨6, _⟩ => ⟨S1x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel9.lean ====
abbrev S8192x1024 : Shape := ⟨2, ![8192, 1024]⟩
abbrev S2x4x256x256 : Shape := ⟨4, ![2, 4, 256, 256]⟩
abbrev S1024 : Shape := ⟨1, ![1024]⟩
abbrev S1x1024 : Shape := ⟨2, ![1, 1024]⟩
abbrev S2048x256 : Shape := ⟨2, ![2048, 256]⟩
abbrev S1x1x256x256 : Shape := ⟨4, ![1, 1, 256, 256]⟩
abbrev S1x256 : Shape := ⟨2, ![1, 256]⟩
abbrev S2048x1 : Shape := ⟨2, ![2048, 1]⟩
abbrev S256x256 : Shape := ⟨2, ![256, 256]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2x4x256x256, .f32⟩
  | .hbm, ⟨2, _⟩ => ⟨S1024, .f32⟩
  | .hbm, ⟨3, _⟩ => ⟨S2x4x256x256, .bf16⟩
  | .hbm, ⟨4, _⟩ => ⟨S1x1024, .f32⟩
  | .hbm, ⟨5, _⟩ => ⟨S8192x1024, .bf16⟩
  | .local _ .vmem, ⟨0, _⟩ => ⟨S2048x256, .f32⟩
  | .local _ .vmem, ⟨1, _⟩ => ⟨S2048x256, .f32⟩
  | .local _ .vmem, ⟨2, _⟩ => ⟨S1x1x256x256, .bf16⟩
  | .local _ .vmem, ⟨3, _⟩ => ⟨S1x1x256x256, .bf16⟩
  | .local _ .vmem, ⟨4, _⟩ => ⟨S1x256, .f32⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg1 : BitVec 32 := BitVec.ofNat 32 (i 1).val
  let c1_i32 : BitVec 32 := 1#32
  let v4 : BitVec 1 := Scalar.cmpi .eq arg1 c1_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg1 : BitVec 32 := BitVec.ofNat 32 (i 1).val
  let c2_i32 : BitVec 32 := 2#32
  let v7 : BitVec 1 := Scalar.cmpi .eq arg1 c2_i32
  let v8 : BitVec 32 := Scalar.extui v7
  let c0_i32_2 : BitVec 32 := 0#32
  let v9 : BitVec 1 := Scalar.cmpi .ne v8 c0_i32_2
  v9

def k0_cond4 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8192x1024 : Shape := ⟨2, ![8192, 1024]⟩
abbrev S2x4x256x256 : Shape := ⟨4, ![2, 4, 256, 256]⟩
abbrev S1024 : Shape := ⟨1, ![1024]⟩
abbrev S4x2048x4x256 : Shape := ⟨4, ![4, 2048, 4, 256]⟩
abbrev S2048x1 : Shape := ⟨2, ![2048, 1]⟩
abbrev S4x2048x1x256 : Shape := ⟨4, ![4, 2048, 1, 256]⟩
abbrev S4x2048x256 : Shape := ⟨3, ![4, 2048, 256]⟩
abbrev S_ : Shape := ⟨0, ![]⟩
abbrev S4x2049x256 : Shape := ⟨3, ![4, 2049, 256]⟩
abbrev S1x2048x1 : Shape := ⟨3, ![1, 2048, 1]⟩
abbrev S1x1x256x256 : Shape := ⟨4, ![1, 1, 256, 256]⟩
abbrev S256x256 : Shape := ⟨2, ![256, 256]⟩
abbrev S4x2050x256 : Shape := ⟨3, ![4, 2050, 256]⟩
abbrev S4x2051x256 : Shape := ⟨3, ![4, 2051, 256]⟩
abbrev S4x2052x256 : Shape := ⟨3, ![4, 2052, 256]⟩
abbrev S4x2053x256 : Shape := ⟨3, ![4, 2053, 256]⟩
abbrev S4x2054x256 : Shape := ⟨3, ![4, 2054, 256]⟩
abbrev S4x2055x256 : Shape := ⟨3, ![4, 2055, 256]⟩
abbrev S4x2056x256 : Shape := ⟨3, ![4, 2056, 256]⟩
abbrev S4x2057x256 : Shape := ⟨3, ![4, 2057, 256]⟩
abbrev S4x2058x256 : Shape := ⟨3, ![4, 2058, 256]⟩
abbrev S4x2059x256 : Shape := ⟨3, ![4, 2059, 256]⟩
abbrev S4x2060x256 : Shape := ⟨3, ![4, 2060, 256]⟩
abbrev S4x2061x256 : Shape := ⟨3, ![4, 2061, 256]⟩
abbrev S4x2062x256 : Shape := ⟨3, ![4, 2062, 256]⟩
abbrev S4x2063x256 : Shape := ⟨3, ![4, 2063, 256]⟩
abbrev S1x1024 : Shape := ⟨2, ![1, 1024]⟩

abbrev nBuf : Space → Nat
  | .hbm => 233
  | .vmem => 0
  | .smem => 0
  | _ => 0

abbrev hbmTy0_0 (i : Nat) : BufTy := match i % 128 with
  | 0 => ⟨S8192x1024, .f32⟩
  | 1 => ⟨S2x4x256x256, .f32⟩
  | 2 => ⟨S1024, .f32⟩
  | 3 => ⟨S4x2048x4x256, .f32⟩
  | 4 => ⟨S2048x1, .i32⟩
  | 5 => ⟨S4x2048x1x256, .f32⟩
  | 6 => ⟨S4x2048x256, .f32⟩
  | 7 => ⟨S_, .i32⟩
  | 8 => ⟨S_, .f32⟩
  | 9 => ⟨S4x2048x256, .f32⟩
  | 10 => ⟨S_, .f32⟩
  | 11 => ⟨S4x2048x256, .f32⟩
  | 12 => ⟨S4x2048x256, .f32⟩
  | 13 => ⟨S_, .i32⟩
  | 14 => ⟨S_, .f32⟩
  | 15 => ⟨S4x2049x256, .f32⟩
  | 16 => ⟨S4x2048x256, .f32⟩
  | 17 => ⟨S4x2048x256, .f32⟩
  | 18 => ⟨S_, .i32⟩
  | 19 => ⟨S2048x1, .i32⟩
  | 20 => ⟨S2048x1, .i32⟩
  | 21 => ⟨S_, .i32⟩
  | 22 => ⟨S2048x1, .i32⟩
  | 23 => ⟨S2048x1, .i32⟩
  | 24 => ⟨S2048x1, .f32⟩
  | 25 => ⟨S1x2048x1, .f32⟩
  | 26 => ⟨S4x2048x256, .f32⟩
  | 27 => ⟨S4x2048x256, .f32⟩
  | 28 => ⟨S4x2048x256, .f32⟩
  | 29 => ⟨S1x1x256x256, .f32⟩
  | 30 => ⟨S256x256, .f32⟩
  | 31 => ⟨S4x2048x256, .f32⟩
  | 32 => ⟨S4x2048x1x256, .f32⟩
  | 33 => ⟨S4x2048x256, .f32⟩
  | 34 => ⟨S_, .i32⟩
  | 35 => ⟨S_, .f32⟩
  | 36 => ⟨S4x2048x256, .f32⟩
  | 37 => ⟨S_, .f32⟩
  | 38 => ⟨S4x2048x256, .f32⟩
  | 39 => ⟨S4x2048x256, .f32⟩
  | 40 => ⟨S_, .i32⟩
  | 41 => ⟨S_, .f32⟩
  | 42 => ⟨S4x2049x256, .f32⟩
  | 43 => ⟨S4x2048x256, .f32⟩
  | 44 => ⟨S4x2048x256, .f32⟩
  | 45 => ⟨S_, .i32⟩
  | 46 => ⟨S_, .f32⟩
  | 47 => ⟨S4x2050x256, .f32⟩
  | 48 => ⟨S4x2048x256, .f32⟩
  | 49 => ⟨S4x2048x256, .f32⟩
  | 50 => ⟨S_, .i32⟩
  | 51 => ⟨S_, .f32⟩
  | 52 => ⟨S4x2051x256, .f32⟩
  | 53 => ⟨S4x2048x256, .f32⟩
  | 54 => ⟨S4x2048x256, .f32⟩
  | 55 => ⟨S_, .i32⟩
  | 56 => ⟨S2048x1, .i32⟩
  | 57 => ⟨S2048x1, .i32⟩
  | 58 => ⟨S_, .i32⟩
  | 59 => ⟨S2048x1, .i32⟩
  | 60 => ⟨S2048x1, .i32⟩
  | 61 => ⟨S2048x1, .f32⟩
  | 62 => ⟨S1x2048x1, .f32⟩
  | 63 => ⟨S4x2048x256, .f32⟩
  | 64 => ⟨S4x2048x256, .f32⟩
  | 65 => ⟨S4x2048x256, .f32⟩
  | 66 => ⟨S1x1x256x256, .f32⟩
  | 67 => ⟨S256x256, .f32⟩
  | 68 => ⟨S4x2048x256, .f32⟩
  | 69 => ⟨S4x2048x1x256, .f32⟩
  | 70 => ⟨S4x2048x256, .f32⟩
  | 71 => ⟨S_, .i32⟩
  | 72 => ⟨S_, .f32⟩
  | 73 => ⟨S4x2048x256, .f32⟩
  | 74 => ⟨S_, .f32⟩
  | 75 => ⟨S4x2048x256, .f32⟩
  | 76 => ⟨S4x2048x256, .f32⟩
  | 77 => ⟨S_, .i32⟩
  | 78 => ⟨S_, .f32⟩
  | 79 => ⟨S4x2049x256, .f32⟩
  | 80 => ⟨S4x2048x256, .f32⟩
  | 81 => ⟨S4x2048x256, .f32⟩
  | 82 => ⟨S_, .i32⟩
  | 83 => ⟨S_, .f32⟩
  | 84 => ⟨S4x2050x256, .f32⟩
  | 85 => ⟨S4x2048x256, .f32⟩
  | 86 => ⟨S4x2048x256, .f32⟩
  | 87 => ⟨S_, .i32⟩
  | 88 => ⟨S_, .f32⟩
  | 89 => ⟨S4x2051x256, .f32⟩
  | 90 => ⟨S4x2048x256, .f32⟩
  | 91 => ⟨S4x2048x256, .f32⟩
  | 92 => ⟨S_, .i32⟩
  | 93 => ⟨S_, .f32⟩
  | 94 => ⟨S4x2052x256, .f32⟩
  | 95 => ⟨S4x2048x256, .f32⟩
  | 96 => ⟨S4x2048x256, .f32⟩
  | 97 => ⟨S_, .i32⟩
  | 98 => ⟨S_, .f32⟩
  | 99 => ⟨S4x2053x256, .f32⟩
  | 100 => ⟨S4x2048x256, .f32⟩
  | 101 => ⟨S4x2048x256, .f32⟩
  | 102 => ⟨S_, .i32⟩
  | 103 => ⟨S_, .f32⟩
  | 104 => ⟨S4x2054x256, .f32⟩
  | 105 => ⟨S4x2048x256, .f32⟩
  | 106 => ⟨S4x2048x256, .f32⟩
  | 107 => ⟨S_, .i32⟩
  | 108 => ⟨S_, .f32⟩
  | 109 => ⟨S4x2055x256, .f32⟩
  | 110 => ⟨S4x2048x256, .f32⟩
  | 111 => ⟨S4x2048x256, .f32⟩
  | 112 => ⟨S_, .i32⟩
  | 113 => ⟨S2048x1, .i32⟩
  | 114 => ⟨S2048x1, .i32⟩
  | 115 => ⟨S_, .i32⟩
  | 116 => ⟨S2048x1, .i32⟩
  | 117 => ⟨S2048x1, .i32⟩
  | 118 => ⟨S2048x1, .f32⟩
  | 119 => ⟨S1x2048x1, .f32⟩
  | 120 => ⟨S4x2048x256, .f32⟩
  | 121 => ⟨S4x2048x256, .f32⟩
  | 122 => ⟨S4x2048x256, .f32⟩
  | 123 => ⟨S1x1x256x256, .f32⟩
  | 124 => ⟨S256x256, .f32⟩
  | 125 => ⟨S4x2048x256, .f32⟩
  | 126 => ⟨S4x2048x1x256, .f32⟩
  | 127 => ⟨S4x2048x256, .f32⟩
  | _ => ⟨S8192x1024, .f32⟩

abbrev hbmTy0_1 (i : Nat) : BufTy := match i % 128 with
  | 0 => ⟨S_, .i32⟩
  | 1 => ⟨S_, .f32⟩
  | 2 => ⟨S4x2048x256, .f32⟩
  | 3 => ⟨S_, .f32⟩
  | 4 => ⟨S4x2048x256, .f32⟩
  | 5 => ⟨S4x2048x256, .f32⟩
  | 6 => ⟨S_, .i32⟩
  | 7 => ⟨S_, .f32⟩
  | 8 => ⟨S4x2049x256, .f32⟩
  | 9 => ⟨S4x2048x256, .f32⟩
  | 10 => ⟨S4x2048x256, .f32⟩
  | 11 => ⟨S_, .i32⟩
  | 12 => ⟨S_, .f32⟩
  | 13 => ⟨S4x2050x256, .f32⟩
  | 14 => ⟨S4x2048x256, .f32⟩
  | 15 => ⟨S4x2048x256, .f32⟩
  | 16 => ⟨S_, .i32⟩
  | 17 => ⟨S_, .f32⟩
  | 18 => ⟨S4x2051x256, .f32⟩
  | 19 => ⟨S4x2048x256, .f32⟩
  | 20 => ⟨S4x2048x256, .f32⟩
  | 21 => ⟨S_, .i32⟩
  | 22 => ⟨S_, .f32⟩
  | 23 => ⟨S4x2052x256, .f32⟩
  | 24 => ⟨S4x2048x256, .f32⟩
  | 25 => ⟨S4x2048x256, .f32⟩
  | 26 => ⟨S_, .i32⟩
  | 27 => ⟨S_, .f32⟩
  | 28 => ⟨S4x2053x256, .f32⟩
  | 29 => ⟨S4x2048x256, .f32⟩
  | 30 => ⟨S4x2048x256, .f32⟩
  | 31 => ⟨S_, .i32⟩
  | 32 => ⟨S_, .f32⟩
  | 33 => ⟨S4x2054x256, .f32⟩
  | 34 => ⟨S4x2048x256, .f32⟩
  | 35 => ⟨S4x2048x256, .f32⟩
  | 36 => ⟨S_, .i32⟩
  | 37 => ⟨S_, .f32⟩
  | 38 => ⟨S4x2055x256, .f32⟩
  | 39 => ⟨S4x2048x256, .f32⟩
  | 40 => ⟨S4x2048x256, .f32⟩
  | 41 => ⟨S_, .i32⟩
  | 42 => ⟨S_, .f32⟩
  | 43 => ⟨S4x2056x256, .f32⟩
  | 44 => ⟨S4x2048x256, .f32⟩
  | 45 => ⟨S4x2048x256, .f32⟩
  | 46 => ⟨S_, .i32⟩
  | 47 => ⟨S_, .f32⟩
  | 48 => ⟨S4x2057x256, .f32⟩
  | 49 => ⟨S4x2048x256, .f32⟩
  | 50 => ⟨S4x2048x256, .f32⟩
  | 51 => ⟨S_, .i32⟩
  | 52 => ⟨S_, .f32⟩
  | 53 => ⟨S4x2058x256, .f32⟩
  | 54 => ⟨S4x2048x256, .f32⟩
  | 55 => ⟨S4x2048x256, .f32⟩
  | 56 => ⟨S_, .i32⟩
  | 57 => ⟨S_, .f32⟩
  | 58 => ⟨S4x2059x256, .f32⟩
  | 59 => ⟨S4x2048x256, .f32⟩
  | 60 => ⟨S4x2048x256, .f32⟩
  | 61 => ⟨S_, .i32⟩
  | 62 => ⟨S_, .f32⟩
  | 63 => ⟨S4x2060x256, .f32⟩
  | 64 => ⟨S4x2048x256, .f32⟩
  | 65 => ⟨S4x2048x256, .f32⟩
  | 66 => ⟨S_, .i32⟩
  | 67 => ⟨S_, .f32⟩
  | 68 => ⟨S4x2061x256, .f32⟩
  | 69 => ⟨S4x2048x256, .f32⟩
  | 70 => ⟨S4x2048x256, .f32⟩
  | 71 => ⟨S_, .i32⟩
  | 72 => ⟨S_, .f32⟩
  | 73 => ⟨S4x2062x256, .f32⟩
  | 74 => ⟨S4x2048x256, .f32⟩
  | 75 => ⟨S4x2048x256, .f32⟩
  | 76 => ⟨S_, .i32⟩
  | 77 => ⟨S_, .f32⟩
  | 78 => ⟨S4x2063x256, .f32⟩
  | 79 => ⟨S4x2048x256, .f32⟩
  | 80 => ⟨S4x2048x256, .f32⟩
  | 81 => ⟨S_, .i32⟩
  | 82 => ⟨S2048x1, .i32⟩
  | 83 => ⟨S2048x1, .i32⟩
  | 84 => ⟨S_, .i32⟩
  | 85 => ⟨S2048x1, .i32⟩
  | 86 => ⟨S2048x1, .i32⟩
  | 87 => ⟨S2048x1, .f32⟩
  | 88 => ⟨S1x2048x1, .f32⟩
  | 89 => ⟨S4x2048x256, .f32⟩
  | 90 => ⟨S4x2048x256, .f32⟩
  | 91 => ⟨S4x2048x256, .f32⟩
  | 92 => ⟨S1x1x256x256, .f32⟩
  | 93 => ⟨S256x256, .f32⟩
  | 94 => ⟨S4x2048x256, .f32⟩
  | 95 => ⟨S4x2048x1x256, .f32⟩
  | 96 => ⟨S4x2048x1x256, .f32⟩
  | 97 => ⟨S4x2048x1x256, .f32⟩
  | 98 => ⟨S4x2048x1x256, .f32⟩
  | 99 => ⟨S4x2048x4x256, .f32⟩
  | 100 => ⟨S8192x1024, .f32⟩
  | 101 => ⟨S1x1024, .f32⟩
  | 102 => ⟨S8192x1024, .f32⟩
  | 103 => ⟨S8192x1024, .f32⟩
  | 104 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_call2_v0 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_call3_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_call4_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_call5_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_call6_v0 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_call7_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_13 : Ref sig .tc := ⟨.hbm, 82, rfl⟩
abbrev main_call8_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_call9_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_call10_v0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_call11_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_17 : Ref sig .tc := ⟨.hbm, 102, rfl⟩
abbrev main_call12_v0 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_18 : Ref sig .tc := ⟨.hbm, 107, rfl⟩
abbrev main_call13_v0 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_19 : Ref sig .tc := ⟨.hbm, 112, rfl⟩
abbrev main_v74 : Ref sig .tc := ⟨.hbm, 113, rfl⟩
abbrev main_v75 : Ref sig .tc := ⟨.hbm, 114, rfl⟩
abbrev main_c_20 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_c_21 : Ref sig .tc := ⟨.hbm, 128, rfl⟩
abbrev main_call14_v0 : Ref sig .tc := ⟨.hbm, 129, rfl⟩
abbrev main_v88 : Ref sig .tc := ⟨.hbm, 130, rfl⟩
abbrev main_cst_22 : Ref sig .tc := ⟨.hbm, 131, rfl⟩
abbrev main_v89 : Ref sig .tc := ⟨.hbm, 132, rfl⟩
abbrev main_v90 : Ref sig .tc := ⟨.hbm, 133, rfl⟩
abbrev main_c_23 : Ref sig .tc := ⟨.hbm, 134, rfl⟩
abbrev main_call15_v0 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_24 : Ref sig .tc := ⟨.hbm, 139, rfl⟩
abbrev main_call16_v0 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_c_25 : Ref sig .tc := ⟨.hbm, 144, rfl⟩
abbrev main_call17_v0 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_c_26 : Ref sig .tc := ⟨.hbm, 149, rfl⟩
abbrev main_call18_v0 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_c_27 : Ref sig .tc := ⟨.hbm, 154, rfl⟩
abbrev main_call19_v0 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_c_28 : Ref sig .tc := ⟨.hbm, 159, rfl⟩
abbrev main_call20_v0 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_c_29 : Ref sig .tc := ⟨.hbm, 164, rfl⟩
abbrev main_call21_v0 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_c_30 : Ref sig .tc := ⟨.hbm, 169, rfl⟩
abbrev main_call22_v0 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_c_31 : Ref sig .tc := ⟨.hbm, 174, rfl⟩
abbrev main_call23_v0 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_c_32 : Ref sig .tc := ⟨.hbm, 179, rfl⟩
abbrev main_call24_v0 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_c_33 : Ref sig .tc := ⟨.hbm, 184, rfl⟩
abbrev main_call25_v0 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_c_34 : Ref sig .tc := ⟨.hbm, 189, rfl⟩
abbrev main_call26_v0 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_c_35 : Ref sig .tc := ⟨.hbm, 194, rfl⟩
abbrev main_call27_v0 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_c_36 : Ref sig .tc := ⟨.hbm, 199, rfl⟩
abbrev main_call28_v0 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_c_37 : Ref sig .tc := ⟨.hbm, 204, rfl⟩
abbrev main_call29_v0 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_c_38 : Ref sig .tc := ⟨.hbm, 209, rfl⟩
abbrev main_v136 : Ref sig .tc := ⟨.hbm, 210, rfl⟩
abbrev main_v137 : Ref sig .tc := ⟨.hbm, 211, rfl⟩
abbrev main_c_39 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩

abbrev nD : Nat := 1
abbrev τ : Topo := Topo.v7x

variable {F : FTy → Type} [FloatOps F]
-- ==== Proof.PreFacts.lean ====
/- The side condition the precondition's text states. -/
module

public import proofs.«01_k».proof.Pre_finite

@[expose] public section

namespace Cert.Pre_finite.Gen

open Idealize.ShloMosaic Cert.Pre_finite

instance facts : Cert.Pre_finite.Facts := ⟨by decide⟩

end Cert.Pre_finite.Gen

end
-- ==== Proof.Run.lean ====
/-
  The fused mixers kernel's run, for every instance of the float operations: the body run once by the executor, the two
  outputs whose contents no scratch value enters (block-sparse and dilated attention) kept at what the run stores, the
  stick-breaking output left unread; then the launch, and the frame of both printed programs.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.FrameBody
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-- A memref's buffer on core `c` held whole at `f`. -/
abbrev pt (c : Dev nD) {sp : Space} {S : Shape} {e : EltTy} (M : Memref sig .tc sp S e) (f : M.view.ty.Contents (Elt F)) : sProp 𝕄 :=
  M.view.loc (c : Thread nD τ) ↦[M.view.set]{fullShare} f

/-! ## Eight row tiles cover an output block -/

/-- Stores of eight tiles of 256 rows reach every index of a 2048 × 128 block, whatever they store. -/
theorem cover8 (w7 w6 w5 w4 w3 w2 w1 w0 : S256x128.Idx → Elt F .bf16) :
    ∀ y : S2048x128.Idx, ∃ p ∈ ([⟨Rect.unit ![1792, 0] S256x128.size inb_S2048x128_S256x128_1792_0, w7⟩,
      ⟨Rect.unit ![1536, 0] S256x128.size inb_S2048x128_S256x128_1536_0, w6⟩,
      ⟨Rect.unit ![1280, 0] S256x128.size inb_S2048x128_S256x128_1280_0, w5⟩,
      ⟨Rect.unit ![1024, 0] S256x128.size inb_S2048x128_S256x128_1024_0, w4⟩,
      ⟨Rect.unit ![768, 0] S256x128.size inb_S2048x128_S256x128_768_0, w3⟩,
      ⟨Rect.unit ![512, 0] S256x128.size inb_S2048x128_S256x128_512_0, w2⟩,
      ⟨Rect.unit ![256, 0] S256x128.size inb_S2048x128_S256x128_256_0, w1⟩,
      ⟨Rect.unit ![0, 0] S256x128.size inb_S2048x128_S256x128_0_0, w0⟩] : List (View.Piece (Elt F) S2048x128 .bf16)), y ∈ p.1.set := by
  intro y
  have h0 : (y 0).val < 2048 := (y 0).isLt
  have h1 : (y 1).val < 128 := (y 1).isLt
  simp only [List.mem_cons, List.not_mem_nil, or_false, exists_eq_or_imp, exists_eq_left, Rect.mem_set_unit, Fin.forall_fin_two]
  simp
  omega

/-! ## The body, run once -/

set_option maxHeartbeats 4000000 in
/-- The body's run from any contents of the ten inputs: the inputs come back as they were, the first and the third output
    hold the pieces the run stores (the witnesses it finds), the second output and the scratch something. -/
def kernelRun (c : Dev nD) (i : grid0.Coords)
    (arg2 : Memref sig .tc .vmem S2048x128 .bf16) (harg2 : arg2.IsWhole)
    (arg3 : Memref sig .tc .vmem S2048x128 .bf16) (harg3 : arg3.IsWhole)
    (arg4 : Memref sig .tc .vmem S2048x128 .bf16) (harg4 : arg4.IsWhole)
    (arg5 : Memref sig .tc .vmem S2048x128 .bf16) (harg5 : arg5.IsWhole)
    (arg6 : Memref sig .tc .vmem S2048x128 .bf16) (harg6 : arg6.IsWhole)
    (arg7 : Memref sig .tc .vmem S2048x128 .bf16) (harg7 : arg7.IsWhole)
    (arg8 : Memref sig .tc .vmem S2048x128 .bf16) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S256x2048 .f32) (harg11 : arg11.IsWhole)
    (arg12 : Memref sig .tc .vmem S2048x128 .bf16) (harg12 : arg12.IsWhole)
    (arg13 : Memref sig .tc .vmem S2048x128 .bf16) (harg13 : arg13.IsWhole)
    (arg14 : Memref sig .tc .vmem S2048x128 .bf16) (harg14 : arg14.IsWhole)
    (arg15 : Memref sig .tc .vmem S2048x128 .f32) (harg15 : arg15.IsWhole)
    (x0 x1 x2 x3 x4 x5 x6 x7 x8 : Vec F S2048x128 .bf16) (x9 : Vec F S256x2048 .f32) :
    { W : List (View.Piece (Elt F) S2048x128 .bf16) × List (View.Piece (Elt F) S2048x128 .bf16) //
      (∀ y, ∃ p ∈ W.1, y ∈ p.1.set) ∧ (∀ y, ∃ p ∈ W.2, y ∈ p.1.set) ∧ ∀ K : PUnit → sProp 𝕄,
      iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ (∃ f, pt c arg12 (arg12.view.writes (Elt F) f W.1))
          ∗ (∃ d, owns (c : Thread nD τ) arg13 fullShare d)
          ∗ (∃ f, pt c arg14 (arg14.view.writes (Elt F) f W.2))
          ∗ (∃ d, owns (c : Thread nD τ) arg15 fullShare d)) -∗ K ⟨⟩))
        ⊢ wp frame (wpE (defs₀ (F := F)) Variants.none c none) Set.univ
          (cc0_attention_mixers i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_⟩, ?c1, ?c2, fun K => ?run⟩
  case run =>
    simp only [cc0_attention_mixers_eq_skeleton]; unfold cc0_attention_mixers_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    sl_exec
    sl_step
    iapply Hk
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H12]
    · iexists f12; iexact H12
    isplitl [H13]
    · iexists _, _; isplitr; swap; · iexact H13
      ipureintro; rfl
    isplitl [H14]
    · iexists f14; iexact H14
    iexists _, _; isplitr; swap; · iexact H15
    ipureintro; rfl
  case c1 => exact cover8 _ _ _ _ _ _ _ _
  case c2 => exact cover8 _ _ _ _ _ _ _ _

end Cert.KernelIdeal.Hand

end
-- ==== Proof.Body.lean ====
/-
  The launch of the fused mixers kernel: what the pipeline's windows hold at each point, the body's obligation from its run,
  and the whole program's run, which gives the frame of both printed programs.
-/
module

public import proofs.«01_k».proof.Proof.Run

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-! ## The proof data -/

variable (m : (ℓ : Loc nD τ sig) → Buf (Elt F) ℓ) (ρ : Dev nD → PrngReg)

/-! The staging memrefs the body is handed at a point, and that each is a whole buffer. -/
abbrev ms0 (t : Fin cfg0.N) : Memref sig .tc .vmem S2048x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x2048 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2048x128 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S2048x128 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S2048x128 .bf16 := win0_12.stage (cfg0.slots t 12)
abbrev hs12 (t : Fin cfg0.N) : (ms12 t).IsWhole := hstage0_12 ((cfg0.slots t 12).cast nbuf0_12)
abbrev scM : Memref sig .tc .vmem S2048x128 .f32 := Memref.whole cc0_scratch0

/-- The body's run at point `t`, from the input blocks of that point. -/
abbrev K (c : Dev nD) (t : Fin cfg0.N) :=
  kernelRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t)
    scM (Memref.isWhole_whole _) (iblk m c 0 t) (iblk m c 1 t) (iblk m c 2 t) (iblk m c 3 t) (iblk m c 4 t) (iblk m c 5 t) (iblk m c 6 t) (iblk m c 7 t) (iblk m c 8 t) (iblk m c 9 t)

/-- The pieces the run stores in the first and in the third output at point `t`. -/
def outA (c : Dev nD) (t : Fin cfg0.N) : List (View.Piece (Elt F) S2048x128 .bf16) := (K m c t).1.1
def outD (c : Dev nD) (t : Fin cfg0.N) : List (View.Piece (Elt F) S2048x128 .bf16) := (K m c t).1.2

theorem outA_cover (c : Dev nD) (t : Fin cfg0.N) : ∀ y, ∃ p ∈ outA m c t, y ∈ p.1.set := (K m c t).2.1
theorem outD_cover (c : Dev nD) (t : Fin cfg0.N) : ∀ y, ∃ p ∈ outD m c t, y ∈ p.1.set := (K m c t).2.2.1

/-- The run at point `t`, over the pieces' names. -/
theorem body_run (c : Dev nD) (t : Fin cfg0.N) (Q : PUnit → sProp 𝕄) :
    iprop(owns (c : Thread nD τ) (ms0 t) fullShare (iblk m c 0 t)
        ∗ owns (c : Thread nD τ) (ms1 t) fullShare (iblk m c 1 t)
        ∗ owns (c : Thread nD τ) (ms2 t) fullShare (iblk m c 2 t)
        ∗ owns (c : Thread nD τ) (ms3 t) fullShare (iblk m c 3 t)
        ∗ owns (c : Thread nD τ) (ms4 t) fullShare (iblk m c 4 t)
        ∗ owns (c : Thread nD τ) (ms5 t) fullShare (iblk m c 5 t)
        ∗ owns (c : Thread nD τ) (ms6 t) fullShare (iblk m c 6 t)
        ∗ owns (c : Thread nD τ) (ms7 t) fullShare (iblk m c 7 t)
        ∗ owns (c : Thread nD τ) (ms8 t) fullShare (iblk m c 8 t)
        ∗ owns (c : Thread nD τ) (ms9 t) fullShare (iblk m c 9 t)
        ∗ (∃ d, owns (c : Thread nD τ) (ms10 t) fullShare d)
        ∗ (∃ d, owns (c : Thread nD τ) (ms11 t) fullShare d)
        ∗ (∃ d, owns (c : Thread nD τ) (ms12 t) fullShare d)
        ∗ (∃ d, owns (c : Thread nD τ) scM fullShare d)
        ∗ (iprop(owns (c : Thread nD τ) (ms0 t) fullShare (iblk m c 0 t)
        ∗ owns (c : Thread nD τ) (ms1 t) fullShare (iblk m c 1 t)
        ∗ owns (c : Thread nD τ) (ms2 t) fullShare (iblk m c 2 t)
        ∗ owns (c : Thread nD τ) (ms3 t) fullShare (iblk m c 3 t)
        ∗ owns (c : Thread nD τ) (ms4 t) fullShare (iblk m c 4 t)
        ∗ owns (c : Thread nD τ) (ms5 t) fullShare (iblk m c 5 t)
        ∗ owns (c : Thread nD τ) (ms6 t) fullShare (iblk m c 6 t)
        ∗ owns (c : Thread nD τ) (ms7 t) fullShare (iblk m c 7 t)
        ∗ owns (c : Thread nD τ) (ms8 t) fullShare (iblk m c 8 t)
        ∗ owns (c : Thread nD τ) (ms9 t) fullShare (iblk m c 9 t)
        ∗ (∃ f, pt c (ms10 t) ((ms10 t).view.writes (Elt F) f (outA m c t)))
        ∗ (∃ d, owns (c : Thread nD τ) (ms11 t) fullShare d)
        ∗ (∃ f, pt c (ms12 t) ((ms12 t).view.writes (Elt F) f (outD m c t)))
        ∗ (∃ d, owns (c : Thread nD τ) scM fullShare d)) -∗ Q ⟨⟩))
      ⊢ wp frame (wpE (defs₀ (F := F)) Variants.none c none) Set.univ (bodyAt0 t) Q :=
  (K m c t).2.2.2 Q

/-- Of the three outputs the second, stick-breaking attention, is forgotten: nothing here reads it. -/
def forgets0 : Fin 13 → Bool := fun w => w = 11

/-- The proof data on core `c`: inputs as fetched, the two tracked outputs at the run's pieces, the scratch at something,
    each input's share of the array that nine of them read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => View.canon (outA m c t)
    | ⟨11, _⟩ => Pipeline.Dat.unnamed (cfg := cfg0) 11 t
    | ⟨12, _⟩ => View.canon (outD m c t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = View.canon (outA m c t) := by dsimp only [dats]
theorem after_12 (c : Dev nD) (t : Fin cfg0.N) : (dats m 0 c).after 12 t = View.canon (outD m c t) := by dsimp only [dats]

/-- The invariant between two points: the scratch owned at some contents, the generator register at some state. -/
theorem PhiA0_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare d)
    ∗ (∃ d, owns (c : Thread nD τ) (ms12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ (∃ d, owns (c : Thread nD τ) (ms11 t) fullShare d)
    ∗ owns (c : Thread nD τ) (ms12 t) fullShare ((dats m 0 c).after 12 t))

set_option maxHeartbeats 2000000 in
/-- The body at the point: the invariant opened, the run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before0_0_of m (dats m 0 c) (A_eq m c 0) (after_0 m c) t, before0_1_of m (dats m 0 c) (A_eq m c 1) (after_1 m c) t, before0_2_of m (dats m 0 c) (A_eq m c 2) (after_2 m c) t, before0_3_of m (dats m 0 c) (A_eq m c 3) (after_3 m c) t, before0_4_of m (dats m 0 c) (A_eq m c 4) (after_4 m c) t, before0_5_of m (dats m 0 c) (A_eq m c 5) (after_5 m c) t, before0_6_of m (dats m 0 c) (A_eq m c 6) (after_6 m c) t, before0_7_of m (dats m 0 c) (A_eq m c 7) (after_7 m c) t, before0_8_of m (dats m 0 c) (A_eq m c 8) (after_8 m c) t, before0_9_of m (dats m 0 c) (A_eq m c 9) (after_9 m c) t,
    after_0, after_1, after_2, after_3, after_4, after_5, after_6, after_7, after_8, after_9, after_10, after_12]
  iintro ⟨⟨HS, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run m c t _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS]; · iexact HS
  iintro ⟨H0, H1, H2, H3, H4, H5, H6, H7, H8, H9, H10, H11, H12, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · icases H10 with ⟨%f, H10⟩
    unfold owns
    iexists _; isplitr; swap; · iexact H10
    ipureintro; exact View.read_writes_eq_canon _ _ _ (outA_cover m c t)
  isplitl [H11]; · iexact H11
  icases H12 with ⟨%f, H12⟩
  unfold owns
  iexists _; isplitr; swap; · iexact H12
  ipureintro; exact View.read_writes_eq_canon _ _ _ (outD_cover m c t)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the second output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- At the compiled mesh, from any memory with zero counters, every weakly fair execution ends with the inputs' arrays as
    found, the tracked outputs at the blocks the run stores, every other buffer as the host code left it, and no counter
    raised. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun c w _ => rfl)
    (howed := fun _ _ => rfl) (V := V m) (hmain := Gen.hmain m Variants.none) (hA := A_eq m) (hΦ := fun _ _ => rfl)
    (hQ' := fun _ h => h)

end Cert.KernelIdeal.Hand

end
-- ==== Proof.Frames.lean ====
/- The frames of every program of the certificate: each run terminates, leaves the arguments unchanged and ends with every
   semaphore counter at zero. The machine-float program and the idealized one print the same text, so one run serves both. -/
module

public import proofs.«01_k».proof.Defs
public import proofs.«01_k».proof.Proof.Gen.Kernel
public import proofs.«01_k».proof.Proof.Gen.ReferenceIdeal.Run
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9Ideal.Frame
public import proofs.«01_k».proof.Proof.Gen.Reference9Ideal.Run
public import Idealize.ShloMosaic.Adequacy
public import proofs.«01_k».proof.Proof.Body

@[expose] public section

set_option maxRecDepth 16384

noncomputable section

namespace Cert.Proof

open Idealize.ShloMosaic Idealize.SL.Sem

/-- The frame of the attention call, at any floats. -/
theorem frame_mixers {F : FTy → Type} [FloatOps F] [Named F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem ((c.tc : Thread _ _).loc Cert.KernelIdeal.main_arg0)
        = m ((c.tc : Thread _ _).loc Cert.KernelIdeal.main_arg0)) ∧ r.2.sem = fun _ => 0 :=
  (θ_run Cert.KernelIdeal.defs _ _).mono (fun _ h => ⟨fun c =>
    ((h.1 c).2 Cert.KernelIdeal.main_arg0 (Pipeline.mem_restRefs_of Cert.KernelIdeal.main_arg0 (by decide) (by decide))).trans
      (Cert.KernelIdeal.Gen.V_main_arg0 m c), h.2⟩) (Cert.KernelIdeal.Hand.run_main m ρ)

/-- At machine floats a named constant is its word: with this reading the idealized text is the printed one. -/
@[reducible] def namedBits : Named Bits where
  named _ _ {φ} w := Scalar.ofBits φ w

attribute [local instance] namedBits

set_option maxHeartbeats 4000000 in
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) :=
  congrArg (Pipeline.defs Cert.KernelIdeal.pcfgs) defs₀_eq

set_option maxHeartbeats 1000000 in
/-- The frame under any table equal to the idealized program's. -/
theorem frame_under (D : Defs Cert.KernelIdeal.nD Cert.KernelIdeal.τ Cert.KernelIdeal.sig (Elt Bits) _)
    (hD : D = Cert.KernelIdeal.defs (F := Bits))
    (m : (ℓ : Loc Cert.KernelIdeal.nD Cert.KernelIdeal.τ Cert.KernelIdeal.sig) → Buf (Elt Bits) ℓ)
    (ρ : Dev Cert.KernelIdeal.nD → PrngReg) :
    θ_run D (onTc (τ := Cert.KernelIdeal.τ) (Cert.KernelIdeal.main (F := Bits))) ⟨m, fun _ => 0, ρ⟩ fun r =>
      (∀ c : Dev Cert.KernelIdeal.nD, r.2.mem ((c.tc : Thread _ _).loc Cert.KernelIdeal.main_arg0)
        = m ((c.tc : Thread _ _).loc Cert.KernelIdeal.main_arg0)) ∧ r.2.sem = fun _ => 0 := by
  subst hD
  exact frame_mixers m ρ

set_option maxHeartbeats 4000000 in
theorem main_eq : Cert.Kernel.main (F := Bits) = Cert.KernelIdeal.main (F := Bits) := rfl

set_option maxHeartbeats 4000000 in
theorem quiescent_Kernel : Cert.quiescent_Kernel := fun m ρ _ => frame_under _ defs_eq m ρ

theorem quiescent_KernelIdeal : Cert.quiescent_KernelIdeal := fun m ρ _ => frame_mixers (F := Ideal) m ρ

theorem quiescent_ReferenceIdeal : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

theorem defs₀_eq2 : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl

theorem defs_eq2 : Cert.Kernel2.defs (F := Bits) = Cert.Kernel2Ideal.defs (F := Bits) :=
  congrArg (Pipeline.defs Cert.Kernel2Ideal.pcfgs) defs₀_eq2

theorem quiescent_Kernel2 : Cert.quiescent_Kernel2 := fun m ρ _ => by
  rw [defs_eq2]; exact Cert.Kernel2Ideal.Gen.frame (F := Bits) m ρ

theorem quiescent_Kernel2Ideal : Cert.quiescent_Kernel2Ideal := fun m ρ _ => Cert.Kernel2Ideal.Gen.frame (F := Ideal) m ρ

theorem quiescent_Reference2Ideal : Cert.quiescent_Reference2Ideal := fun m ρ _ =>
  (θ_run Cert.Reference2Ideal.defs _ _).mono (fun r h => ⟨fun c => (h c).2.2,
    Idealize.ShloMosaic.sem_eq_zero_of_no_sems (by decide) r.2⟩) (Cert.Reference2Ideal.Value.run (F := Ideal) m ρ)

theorem defs₀_eq3 : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => rfl

theorem defs_eq3 : Cert.Kernel3.defs (F := Bits) = Cert.Kernel3Ideal.defs (F := Bits) :=
  congrArg (Pipeline.defs Cert.Kernel3Ideal.pcfgs) defs₀_eq3

theorem quiescent_Kernel3 : Cert.quiescent_Kernel3 := fun m ρ _ => by
  rw [defs_eq3]; exact Cert.Kernel3Ideal.Gen.frame (F := Bits) m ρ

theorem quiescent_Kernel3Ideal : Cert.quiescent_Kernel3Ideal := fun m ρ _ => Cert.Kernel3Ideal.Gen.frame (F := Ideal) m ρ

theorem quiescent_Reference3Ideal : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

theorem defs₀_eq4 : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (t, s) => rfl

theorem defs_eq4 : Cert.Kernel4.defs (F := Bits) = Cert.Kernel4Ideal.defs (F := Bits) :=
  congrArg (Pipeline.defs Cert.Kernel4Ideal.pcfgs) defs₀_eq4

theorem quiescent_Kernel4 : Cert.quiescent_Kernel4 := fun m ρ _ => by
  rw [defs_eq4]; exact Cert.Kernel4Ideal.Gen.frame (F := Bits) m ρ

theorem quiescent_Kernel4Ideal : Cert.quiescent_Kernel4Ideal := fun m ρ _ => Cert.Kernel4Ideal.Gen.frame (F := Ideal) m ρ

theorem quiescent_Reference4Ideal : Cert.quiescent_Reference4Ideal := fun m ρ _ =>
  (θ_run Cert.Reference4Ideal.defs _ _).mono (fun r h => ⟨fun c => (h c).2.2,
    Idealize.ShloMosaic.sem_eq_zero_of_no_sems (by decide) r.2⟩) (Cert.Reference4Ideal.Value.run (F := Ideal) m ρ)

theorem defs₀_eq5 : Cert.Kernel5.defs₀ (F := Bits) = Cert.Kernel5Ideal.defs₀ (F := Bits) := by
  unfold Cert.Kernel5.defs₀ Cert.Kernel5Ideal.defs₀
  refine congrArg Defs.onTc ?_
  funext l a
  match l, a with
  | 0, (t, s) => rfl

theorem defs_eq5 : Cert.Kernel5.defs (F := Bits) = Cert.Kernel5Ideal.defs (F := Bits) :=
  congrArg (Pipeline.defs Cert.Kernel5Ideal.pcfgs) defs₀_eq5

theorem quiescent_Kernel5 : Cert.quiescent_Kernel5 := fun m ρ _ => by
  rw [defs_eq5]; exact Cert.Kernel5Ideal.Gen.frame (F := Bits) m ρ

theorem quiescent_Kernel5Ideal : Cert.quiescent_Kernel5Ideal := fun m ρ _ => Cert.Kernel5Ideal.Gen.frame (F := Ideal) m ρ

theorem quiescent_Reference5Ideal : Cert.quiescent_Reference5Ideal := fun m ρ _ =>
  (θ_run Cert.Reference5Ideal.defs _ _).mono (fun r h => ⟨fun c => (h c).2,
    Idealize.ShloMosaic.sem_eq_zero_of_no_sems (by decide) r.2⟩) (Cert.Reference5Ideal.Value.run (F := Ideal) m ρ)

theorem defs₀_eq6 : Cert.Kernel6.defs₀ (F := Bits) = Cert.Kernel6Ideal.defs₀ (F := Bits) := by
  unfold Cert.Kernel6.defs₀ Cert.Kernel6Ideal.defs₀
  refine congrArg Defs.onTc ?_
  funext l a
  match l, a with
  | 0, (t, s) => rfl

theorem defs_eq6 : Cert.Kernel6.defs (F := Bits) = Cert.Kernel6Ideal.defs (F := Bits) :=
  congrArg (Pipeline.defs Cert.Kernel6Ideal.pcfgs) defs₀_eq6

theorem quiescent_Kernel6 : Cert.quiescent_Kernel6 := fun m ρ _ => by
  rw [defs_eq6]; exact Cert.Kernel6Ideal.Gen.frame (F := Bits) m ρ

theorem quiescent_Kernel6Ideal : Cert.quiescent_Kernel6Ideal := fun m ρ _ => Cert.Kernel6Ideal.Gen.frame (F := Ideal) m ρ

theorem quiescent_Reference6Ideal : Cert.quiescent_Reference6Ideal := fun m ρ _ =>
  (θ_run Cert.Reference6Ideal.defs _ _).mono (fun r h => ⟨fun c => (h c).2.2.2,
    Idealize.ShloMosaic.sem_eq_zero_of_no_sems (by decide) r.2⟩) (Cert.Reference6Ideal.Value.run (F := Ideal) m ρ)

theorem defs₀_eq7 : Cert.Kernel7.defs₀ (F := Bits) = Cert.Kernel7Ideal.defs₀ (F := Bits) := by
  unfold Cert.Kernel7.defs₀ Cert.Kernel7Ideal.defs₀
  refine congrArg Defs.onTc ?_
  funext l a
  match l, a with
  | 0, (t, s) => rfl

theorem defs_eq7 : Cert.Kernel7.defs (F := Bits) = Cert.Kernel7Ideal.defs (F := Bits) :=
  congrArg (Pipeline.defs Cert.Kernel7Ideal.pcfgs) defs₀_eq7

theorem quiescent_Kernel7 : Cert.quiescent_Kernel7 := fun m ρ _ => by
  rw [defs_eq7]; exact Cert.Kernel7Ideal.Gen.frame (F := Bits) m ρ

theorem quiescent_Kernel7Ideal : Cert.quiescent_Kernel7Ideal := fun m ρ _ => Cert.Kernel7Ideal.Gen.frame (F := Ideal) m ρ

theorem quiescent_Reference7Ideal : Cert.quiescent_Reference7Ideal := fun m ρ _ =>
  (θ_run Cert.Reference7Ideal.defs _ _).mono (fun r h => ⟨fun c => (h c).2,
    Idealize.ShloMosaic.sem_eq_zero_of_no_sems (by decide) r.2⟩) (Cert.Reference7Ideal.Value.run (F := Ideal) m ρ)

theorem defs₀_eq8 : Cert.Kernel8.defs₀ (F := Bits) = Cert.Kernel8Ideal.defs₀ (F := Bits) := by
  unfold Cert.Kernel8.defs₀ Cert.Kernel8Ideal.defs₀
  refine congrArg Defs.onTc ?_
  funext l a
  match l, a with
  | 0, (t, s) => rfl

theorem defs_eq8 : Cert.Kernel8.defs (F := Bits) = Cert.Kernel8Ideal.defs (F := Bits) :=
  congrArg (Pipeline.defs Cert.Kernel8Ideal.pcfgs) defs₀_eq8

theorem quiescent_Kernel8 : Cert.quiescent_Kernel8 := fun m ρ _ => by
  rw [defs_eq8]; exact Cert.Kernel8Ideal.Gen.frame (F := Bits) m ρ

theorem quiescent_Kernel8Ideal : Cert.quiescent_Kernel8Ideal := fun m ρ _ => Cert.Kernel8Ideal.Gen.frame (F := Ideal) m ρ

theorem quiescent_Reference8Ideal : Cert.quiescent_Reference8Ideal := fun m ρ _ =>
  (θ_run Cert.Reference8Ideal.defs _ _).mono (fun r h => ⟨fun c => (h c).2,
    Idealize.ShloMosaic.sem_eq_zero_of_no_sems (by decide) r.2⟩) (Cert.Reference8Ideal.Value.run (F := Ideal) m ρ)

theorem defs₀_eq9 : Cert.Kernel9.defs₀ (F := Bits) = Cert.Kernel9Ideal.defs₀ (F := Bits) := by
  unfold Cert.Kernel9.defs₀ Cert.Kernel9Ideal.defs₀
  refine congrArg Defs.onTc ?_
  funext l a
  match l, a with
  | 0, (t, s) => rfl

theorem defs_eq9 : Cert.Kernel9.defs (F := Bits) = Cert.Kernel9Ideal.defs (F := Bits) :=
  congrArg (Pipeline.defs Cert.Kernel9Ideal.pcfgs) defs₀_eq9

theorem quiescent_Kernel9 : Cert.quiescent_Kernel9 := fun m ρ _ => by
  rw [defs_eq9]; exact Cert.Kernel9Ideal.Gen.frame (F := Bits) m ρ

theorem quiescent_Kernel9Ideal : Cert.quiescent_Kernel9Ideal := fun m ρ _ => Cert.Kernel9Ideal.Gen.frame (F := Ideal) m ρ

theorem quiescent_Reference9Ideal : Cert.quiescent_Reference9Ideal := fun m ρ _ =>
  (θ_run Cert.Reference9Ideal.defs _ _).mono (fun r h => ⟨fun c => (h c).2,
    Idealize.ShloMosaic.sem_eq_zero_of_no_sems (by decide) r.2⟩) (Cert.Reference9Ideal.Value.run (F := Ideal) m ρ)

end Cert.Proof

end
-- ==== Proof.FramesPre.lean ====
/- The frames of the attention call and of its reference, from finite arguments. -/
module

public import proofs.«01_k».proof.Defs
public import proofs.«01_k».proof.Proof.PreFacts
public import proofs.«01_k».proof.Proof.Frames

@[expose] public section

set_option maxRecDepth 16384

noncomputable section

namespace Cert.Proof

open Idealize.ShloMosaic Idealize.SL.Sem

theorem quiescent_KernelIdeal_pre_finite : Cert.quiescent_KernelIdeal_pre_finite :=
  fun m ρ _ => frame_mixers (F := Ideal) m ρ

theorem quiescent_ReferenceIdeal_pre_finite : Cert.quiescent_ReferenceIdeal_pre_finite := fun m ρ _ =>
  quiescent_ReferenceIdeal m ρ trivial

end Cert.Proof

end
-- ==== Proof.SoftMix.lean ====
/- Softmax over extended reals, for real scores: what a masked softmax row, the mix of three of them by their log-sums, and
   a softmax with integer weights given as base-2 logarithms come to, each as one real quotient. -/
module

public import Idealize.ShloMosaic.Lib.Pipeline.ValueKit
public import Mathlib.Analysis.SpecialFunctions.Pow.Real

@[expose] public section

noncomputable section

open Idealize.ShloMosaic

namespace Cert.SoftMix

/-! ## Operations at reals -/

theorem sum_coe {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

theorem exp_coe (r : ℝ) : Ideal.exp (r : EReal) = ((Real.exp r : ℝ) : EReal) := rfl
theorem exp2_coe (r : ℝ) : Ideal.exp2 (r : EReal) = (((2 : ℝ) ^ r : ℝ) : EReal) := rfl

theorem log_coe {r : ℝ} (h : 0 < r) : Ideal.log (r : EReal) = ((Real.log r : ℝ) : EReal) := if_neg (not_le.mpr h)

theorem log_zero : Ideal.log (0 : EReal) = ⊥ := if_pos (le_refl (0 : ℝ))

theorem div_coe {x y : ℝ} (hy : 0 < y) : Ideal.div (x : EReal) (y : EReal) = ((x / y : ℝ) : EReal) := by
  have h : ((y : ℝ) : EReal) ≠ 0 := by exact_mod_cast hy.ne'
  rw [Ideal.div, if_neg h, div_eq_mul_inv, EReal.coe_mul, EReal.coe_inv]

/-- The largest of finitely many scores, none `⊤` and one above `⊥`, is a real. -/
theorem top_real {ι : Type} (u : Finset ι) (s : ι → EReal) (h : ∀ j, s j ≠ ⊤) (j0 : ι) (hj : j0 ∈ u) (h0 : s j0 ≠ ⊥) :
    ∃ r : ℝ, u.fold max (⊥ : EReal) s = (r : EReal) := by
  have hlt : u.fold max (⊥ : EReal) s < ⊤ := (Finset.fold_max_lt _).mpr ⟨bot_lt_top, fun j _ => lt_top_iff_ne_top.mpr (h j)⟩
  have hgt : ⊥ < u.fold max (⊥ : EReal) s := (Finset.lt_fold_max _).mpr (Or.inr ⟨j0, hj, bot_lt_iff_ne_bot.mpr h0⟩)
  exact ⟨_, (EReal.coe_toReal hlt.ne hgt.ne').symm⟩

/-! ## One masked row -/

section row

variable {n : ℕ} (ok : Fin n → Prop) [DecidablePred ok] (l : Fin n → ℝ) (L : Fin n → EReal)

/-- The unnormalised weight of a masked score. -/
def wt (j : Fin n) : ℝ := if ok j then Real.exp (l j) else 0

/-- The sum of the weights. -/
def tot : ℝ := ∑ j, wt ok l j

theorem wt_nonneg (j : Fin n) : 0 ≤ wt ok l j := by
  unfold wt; split
  · exact (Real.exp_pos _).le
  · exact le_refl _

theorem tot_pos (j0 : Fin n) (h0 : ok j0) : 0 < tot ok l :=
  Finset.sum_pos' (fun j _ => wt_nonneg ok l j) ⟨j0, Finset.mem_univ _, by unfold wt; rw [if_pos h0]; exact Real.exp_pos _⟩

variable (hL : ∀ j, L j = if ok j then (l j : EReal) else ⊥)
include hL

theorem exp_sub (r : ℝ) (j : Fin n) : Ideal.exp (L j - (r : EReal)) = ((wt ok l j * Real.exp (-r) : ℝ) : EReal) := by
  rw [hL j]; unfold wt
  split
  · rw [← EReal.coe_sub, exp_coe, sub_eq_add_neg, Real.exp_add]
  · rw [EReal.bot_sub, zero_mul]; rfl

/-- The log-sum of a masked row, at any real shift. -/
theorem lse_val (j0 : Fin n) (h0 : ok j0) (M : EReal) (hM : ∃ r : ℝ, M = (r : EReal)) :
    M + Ideal.log (∑ j, Ideal.exp (L j - M)) = ((Real.log (tot ok l) : ℝ) : EReal) := by
  obtain ⟨r, hr⟩ := hM
  have hp := tot_pos ok l j0 h0
  rw [hr, Finset.sum_congr rfl (fun j _ => exp_sub ok l L hL r j), sum_coe, ← Finset.sum_mul,
    show (∑ i, wt ok l i) = tot ok l from rfl, log_coe (mul_pos hp (Real.exp_pos _)), ← EReal.coe_add, Real.log_mul (ne_of_gt hp) (Real.exp_pos _).ne', Real.log_exp]
  congr 1; ring

/-- The values weighted by a masked row's softmax. -/
theorem out_val (v : Fin n → ℝ) (j0 : Fin n) (h0 : ok j0) :
    (∑ j, Ideal.exp (L j - ((Real.log (tot ok l) : ℝ) : EReal)) * (v j : EReal))
      = (((∑ j, wt ok l j * v j) / tot ok l : ℝ) : EReal) := by
  have hp := tot_pos ok l j0 h0
  rw [Finset.sum_congr rfl (fun j _ => by rw [exp_sub ok l L hL _ j, ← EReal.coe_mul]), sum_coe, Real.exp_neg, Real.exp_log hp,
    Finset.sum_div]
  refine congrArg _ (Finset.sum_congr rfl fun j _ => ?_)
  rw [div_eq_mul_inv]; ring

end row

/-! ## Three rows mixed by their log-sums -/

theorem mix_val (S1 S2 S3 N1 N2 N3 : ℝ) (h1 : 0 < S1) (h2 : 0 < S2) (h3 : 0 < S3) (T E1 E2 E3 : EReal)
    (hT : T = max (max ((Real.log S1 : ℝ) : EReal) ((Real.log S2 : ℝ) : EReal)) ((Real.log S3 : ℝ) : EReal))
    (hE1 : E1 = Ideal.exp (((Real.log S1 : ℝ) : EReal) - T)) (hE2 : E2 = Ideal.exp (((Real.log S2 : ℝ) : EReal) - T))
    (hE3 : E3 = Ideal.exp (((Real.log S3 : ℝ) : EReal) - T)) :
    Ideal.div E1 (E1 + E2 + E3) * ((N1 / S1 : ℝ) : EReal) + Ideal.div E2 (E1 + E2 + E3) * ((N2 / S2 : ℝ) : EReal)
      + Ideal.div E3 (E1 + E2 + E3) * ((N3 / S3 : ℝ) : EReal) = (((N1 + N2 + N3) / (S1 + S2 + S3) : ℝ) : EReal) := by
  obtain ⟨r, hr⟩ : ∃ r : ℝ, T = (r : EReal) := ⟨max (max (Real.log S1) (Real.log S2)) (Real.log S3), by
    rw [hT, EReal.coe_strictMono.monotone.map_max, EReal.coe_strictMono.monotone.map_max]⟩
  have key : ∀ S : ℝ, 0 < S → Ideal.exp (((Real.log S : ℝ) : EReal) - (r : EReal)) = ((S * Real.exp (-r) : ℝ) : EReal) := by
    intro S h
    rw [← EReal.coe_sub, exp_coe, sub_eq_add_neg, Real.exp_add, Real.exp_log h]
  have he := Real.exp_pos (-r)
  rw [hE1, hE2, hE3, hr, key S1 h1, key S2 h2, key S3 h3, ← EReal.coe_add, ← EReal.coe_add, div_coe (by positivity),
    div_coe (by positivity), div_coe (by positivity), ← EReal.coe_mul, ← EReal.coe_mul, ← EReal.coe_mul, ← EReal.coe_add,
    ← EReal.coe_add]
  congr 1
  field_simp

/-! ## One row with weights -/

section weighted

variable {n : ℕ} (c z : Fin n → ℝ) (s : Fin n → EReal)
  (hs : ∀ j, s j = (z j : EReal) + Ideal.div (Ideal.log (c j : EReal)) ((Real.log 2 : ℝ) : EReal)) (hc : ∀ j, 0 ≤ c j)

theorem log2_div {x : ℝ} (h : 0 < x) :
    Ideal.div (Ideal.log (x : EReal)) ((Real.log 2 : ℝ) : EReal) = ((Real.log x / Real.log 2 : ℝ) : EReal) := by
  rw [log_coe h, div_coe (Real.log_pos (by norm_num))]

theorem log2_div_zero : Ideal.div (Ideal.log ((0 : ℝ) : EReal)) ((Real.log 2 : ℝ) : EReal) = ⊥ := by
  have hp : 0 < Real.log 2 := Real.log_pos (by norm_num)
  have h : ((Real.log 2 : ℝ) : EReal) ≠ 0 := by exact_mod_cast hp.ne'
  rw [EReal.coe_zero, log_zero, Ideal.div, if_neg h, ← EReal.coe_inv, EReal.bot_mul_coe_of_pos (inv_pos.mpr hp)]

include hs hc

theorem s_val (j : Fin n) : s j = if c j = 0 then ⊥ else ((z j + Real.log (c j) / Real.log 2 : ℝ) : EReal) := by
  rw [hs j]
  split
  · rename_i h
    rw [h, log2_div_zero, EReal.add_bot]
  · rename_i h
    rw [log2_div (lt_of_le_of_ne (hc j) (Ne.symm h)), ← EReal.coe_add]

theorem exp2_sub (r : ℝ) (j : Fin n) : Ideal.exp2 (s j - (r : EReal)) = ((c j * (2 : ℝ) ^ z j * (2 : ℝ) ^ (-r) : ℝ) : EReal) := by
  rw [s_val c z s hs hc j]
  split
  · rename_i h
    rw [h, EReal.bot_sub, zero_mul, zero_mul]; rfl
  · rename_i h
    have h' := lt_of_le_of_ne (hc j) (Ne.symm h)
    have hc' : (2 : ℝ) ^ (Real.log (c j) / Real.log 2) = c j := by
      have h2 : Real.log 2 ≠ 0 := (Real.log_pos (by norm_num)).ne'
      rw [Real.rpow_def_of_pos (by norm_num), mul_div_cancel₀ _ h2, Real.exp_log h']
    rw [← EReal.coe_sub, exp2_coe, sub_eq_add_neg, Real.rpow_add (by norm_num), Real.rpow_add (by norm_num), hc']
    congr 1; ring

theorem s_top (j : Fin n) : s j ≠ ⊤ := by
  rw [s_val c z s hs hc j]; split; exacts [bot_ne_top, EReal.coe_ne_top _]

theorem s_bot (j : Fin n) (h0 : 0 < c j) : s j ≠ ⊥ := by
  rw [s_val c z s hs hc j, if_neg h0.ne']; exact EReal.coe_ne_bot _

/-- The quotient of the two products of a weighted row, with the values and with ones. -/
theorem row_val (v : Fin n → ℝ) (j0 : Fin n) (h0 : 0 < c j0) (M : EReal) (hM : ∃ r : ℝ, M = (r : EReal)) :
    Ideal.div (∑ j, Ideal.exp2 (s j - M) * (v j : EReal)) (∑ j, Ideal.exp2 (s j - M) * 1)
      = (((∑ j, c j * (2 : ℝ) ^ z j * v j) / (∑ j, c j * (2 : ℝ) ^ z j) : ℝ) : EReal) := by
  obtain ⟨r, hr⟩ := hM
  have hp : 0 < ∑ j, c j * (2 : ℝ) ^ z j :=
    Finset.sum_pos' (fun j _ => mul_nonneg (hc j) (Real.rpow_nonneg (by norm_num) _))
      ⟨j0, Finset.mem_univ _, mul_pos h0 (Real.rpow_pos_of_pos (by norm_num) _)⟩
  have h2 : 0 < (2 : ℝ) ^ (-r) := Real.rpow_pos_of_pos (by norm_num) _
  rw [hr, Finset.sum_congr rfl (fun j _ => by rw [exp2_sub c z s hs hc r j, ← EReal.coe_mul]), sum_coe,
    Finset.sum_congr rfl (g := fun j => ((c j * (2 : ℝ) ^ z j * (2 : ℝ) ^ (-r) : ℝ) : EReal))
      (fun j _ => by rw [exp2_sub c z s hs hc r j, mul_one]), sum_coe, ← Finset.sum_mul, div_coe (mul_pos hp h2)]
  congr 1
  rw [Finset.sum_congr rfl (g := fun j => (c j * (2 : ℝ) ^ z j * v j) * (2 : ℝ) ^ (-r)) (fun j _ => by ring), ← Finset.sum_mul,
    mul_div_mul_right _ _ h2.ne']

end weighted

/-! ## The three patterns of distances -/

/-- A distance is in the pattern with dilation mask `k` and window `w`. -/
def bit (d k w : BitVec 32) : BitVec 1 :=
  IntOp.andi (IntOp.andi (IntOp.cmpi .sge d 0#32) (IntOp.cmpi .eq (IntOp.andi d k) 0#32)) (IntOp.cmpi .sle d w)

/-- The distance of a query at `a` from a key at `b`. -/
def dist (a b : ℕ) : BitVec 32 := IntOp.subi (BitVec.ofNat 32 a) (BitVec.ofNat 32 b)

/-- The number of patterns a distance is in. -/
def cnt (d : BitVec 32) : ℝ :=
  ((bit d 0#32 128#32).toNat : ℝ) + ((bit d 3#32 512#32).toNat : ℝ) + ((bit d 15#32 2048#32).toNat : ℝ)

theorem cnt_nonneg (d : BitVec 32) : 0 ≤ cnt d := by unfold cnt; positivity

theorem dist_self (a : ℕ) : dist a a = 0#32 := by
  show BitVec.ofNat 32 a - BitVec.ofNat 32 a = 0#32
  exact BitVec.sub_self _

theorem cnt_self (a : ℕ) : 0 < cnt (dist a a) := by
  have h1 : bit 0#32 0#32 128#32 = 1 := by decide
  have h2 : bit 0#32 3#32 512#32 = 1 := by decide
  have h3 : bit 0#32 15#32 2048#32 = 1 := by decide
  rw [dist_self, cnt, h1, h2, h3, show (1 : BitVec 1).toNat = 1 from rfl]
  norm_num

theorem bit_after (a b : ℕ) (hab : a < b) (hb : b ≤ 2048) (k w : BitVec 32) : bit (dist a b) k w = 0 := by
  have h : IntOp.cmpi .sge (dist a b) 0#32 = 0#1 := by
    show BitVec.ofBool (BitVec.sle 0#32 (BitVec.ofNat 32 a - BitVec.ofNat 32 b)) = 0#1
    have h2 : BitVec.sle 0#32 (BitVec.ofNat 32 a - BitVec.ofNat 32 b) = false := by
      rw [BitVec.sle_eq_decide, decide_eq_false_iff_not, BitVec.toInt_eq_toNat_cond, BitVec.toInt_eq_toNat_cond,
        BitVec.toNat_sub, BitVec.toNat_ofNat, BitVec.toNat_ofNat, BitVec.toNat_ofNat]
      omega
    rw [h2]; rfl
  unfold bit
  rw [h]
  show (0#1 &&& _) &&& _ = 0#1
  rw [BitVec.zero_and, BitVec.zero_and]

theorem cnt_after (a b : ℕ) (hab : a < b) (hb : b ≤ 2048) : cnt (dist a b) = 0 := by
  unfold cnt
  rw [bit_after a b hab hb, bit_after a b hab hb, bit_after a b hab hb]
  norm_num

theorem bit_mul (x : BitVec 1) (e : ℝ) : (if x = 1 then e else 0) = (x.toNat : ℝ) * e := by
  rcases BitVec.eq_zero_or_eq_one x with h | h <;> subst h
  · rw [if_neg (by decide)]; simp
  · rw [if_pos (by decide)]; simp

/-- A tile's table column `1792 - 256 t + j` holds the distance of row `256 t + r` from column `j`. -/
theorem dist_tile (r t j o : ℕ) (h : o + 256 * t = 1792) :
    IntOp.addi (IntOp.subi (BitVec.ofNat 32 r) (BitVec.ofNat 32 (o + j))) 1792#32 = dist (256 * t + r) j := by
  show BitVec.ofNat 32 r - BitVec.ofNat 32 (o + j) + BitVec.ofNat 32 1792 = BitVec.ofNat 32 (256 * t + r) - BitVec.ofNat 32 j
  apply BitVec.eq_of_toNat_eq
  rw [BitVec.toNat_add, BitVec.toNat_sub, BitVec.toNat_sub, BitVec.toNat_ofNat, BitVec.toNat_ofNat, BitVec.toNat_ofNat,
    BitVec.toNat_ofNat, BitVec.toNat_ofNat]
  omega

end Cert.SoftMix

end
-- ==== Proof.MixRef.lean ====
/- The reference of the mixers' dilated attention at one entry: with real inputs, one quotient of two sums. -/
module

public import proofs.«01_k».proof.Proof.SoftMix
public import proofs.«01_k».proof.Proof.Gen.ReferenceIdeal.Run
public import Idealize.ShloMosaic.Lib.StableHlo.Run
public import Idealize.ShloMosaic.Adequacy

@[expose] public section

set_option maxRecDepth 16384

noncomputable section

open Idealize.ShloMosaic Idealize.ShloMosaic.TcCoe Idealize.SL.Sem

/-! ## The attention as real arithmetic -/

namespace Cert.Dilated

open Cert.SoftMix

variable (X : Fin 8192 → Fin 9216 → ℝ)

/-- The logit of query `q` and key `j` of head `h` of sequence `b`. -/
def logit (b : Fin 4) (h : Fin 8) (q j : Fin 2048) : ℝ :=
  (∑ x : Fin 128, X ⟨b.val * 2048 + q.val, by omega⟩ ⟨6144 + (h.val * 128 + x.val), by omega⟩
    * X ⟨b.val * 2048 + j.val, by omega⟩ ⟨7168 + (h.val * 128 + x.val), by omega⟩) * (1 / Real.sqrt 128)

/-- The value of key `j` at column `d`. -/
def val (b : Fin 4) (h : Fin 8) (j : Fin 2048) (d : Fin 128) : ℝ :=
  X ⟨b.val * 2048 + j.val, by omega⟩ ⟨8192 + (h.val * 128 + d.val), by omega⟩

/-! A key is in each of the three patterns. -/
abbrev ok1 (q j : Fin 2048) : Prop := bit (dist q.val j.val) 0#32 128#32 = 1
abbrev ok2 (q j : Fin 2048) : Prop := bit (dist q.val j.val) 3#32 512#32 = 1
abbrev ok3 (q j : Fin 2048) : Prop := bit (dist q.val j.val) 15#32 2048#32 = 1

/-- The attention's output: each key weighs as often as patterns hold it. -/
def out (b : Fin 4) (h : Fin 8) (q : Fin 2048) (d : Fin 128) : ℝ :=
  (∑ j : Fin 2048, cnt (dist q.val j.val) * Real.exp (logit X b h q j) * val X b h j d)
    / (∑ j : Fin 2048, cnt (dist q.val j.val) * Real.exp (logit X b h q j))

end Cert.Dilated

namespace Cert.ReferenceIdeal.Term

open Cert.ReferenceIdeal Cert.ReferenceIdeal.Gen Cert.ReferenceIdeal.Value
open Cert.SoftMix Cert.Dilated

theorem lit_neg_inf : Ideal.ofBits .f32 0xFF800000#32 = (⊥ : EReal) := by
  simp [Ideal.ofBits, Ideal.ieee]

theorem lit_128 : Ideal.ofBits .f32 0x43000000#32 = ((128 : ℝ) : EReal) := by
  simp [Ideal.ofBits, Ideal.ieee, -EReal.coe_mul]; norm_num

theorem scale_val : Ideal.div 1 (Ideal.sqrt (Ideal.ofBits .f32 0x43000000#32)) = ((1 / Real.sqrt 128 : ℝ) : EReal) := by
  have h1 : Ideal.sqrt ((128 : ℝ) : EReal) = ((Real.sqrt 128 : ℝ) : EReal) := if_neg (by norm_num)
  rw [lit_128, h1, show (1 : EReal) = ((1 : ℝ) : EReal) from rfl, div_coe (Real.sqrt_pos.mpr (by norm_num))]

/-! ## One row of masked scores -/

section row

variable (L : FVec Ideal S4x8x2048x2048 .f32)

/-- The largest score of each row. -/
def MX : FVec Ideal S4x8x2048 .f32 :=
  Host.reduce FloatOps.maximumf L (constant S_ .f32 0xFF800000#32) reducesTo_S4x8x2048x2048_S4x8x2048_d3 h_S_

/-- The log-sum of each row. -/
def LSE (M : FVec Ideal S4x8x2048 .f32) : FVec Ideal S4x8x2048 .f32 :=
  addf M (Host.log (Host.reduceAdd (Host.exp (subf L (broadcastInDim S4x8x2048x2048 ![0, 1, 2, 3] bcast_S4x8x2048x1_S4x8x2048x2048_0_1_2_3 (broadcastInDim S4x8x2048x1 ![0, 1, 2] bcast_S4x8x2048_S4x8x2048x1_0_1_2 M)))) (constant S_ .f32 0x00000000#32) reducesTo_S4x8x2048x2048_S4x8x2048_d3 h_S_))

theorem mx_real (b : Fin 4) (h : Fin 8) (q : Fin 2048) (ht : ∀ i, L i ≠ ⊤) (hb : L (ix4 b h q q) ≠ ⊥) :
    ∃ r : ℝ, MX L (ix3 b h q) = ((r : ℝ) : EReal) := by
  obtain ⟨r, hr⟩ := top_real (Finset.univ.filter fun i => reducesTo_S4x8x2048x2048_S4x8x2048_d3.drop i = ix3 b h q) L ht
    (ix4 b h q q) (Finset.mem_filter.mpr ⟨Finset.mem_univ _, by funext a; fin_cases a <;> rfl⟩) hb
  refine ⟨r, Eq.trans ?_ hr⟩
  pointwise [MX]
  rw [lit_neg_inf]

theorem lse_at (M : FVec Ideal S4x8x2048 .f32) (b : Fin 4) (h : Fin 8) (q : Fin 2048) :
    LSE L M (ix3 b h q) = M (ix3 b h q) + Ideal.log (∑ j : Fin 2048, Ideal.exp (L (ix4 b h q j) - M (ix3 b h q))) := by
  pointwise [LSE]

end row

/-! ## The mix of three rows' outputs -/

section mix

variable (L1 L2 L3 : FVec Ideal S4x8x2048x2048 .f32) (S1 S2 S3 E1 E2 E3 DEN : FVec Ideal S4x8x2048 .f32)
  (VAL : FVec Ideal S4x8x2048x128 .f32)

/-- The mix, laid out as rows. -/
def MIX : FVec Ideal S8192x1024 .bf16 :=
  truncf .bf16 (shapeCast _ (transpose S4x2048x8x128 [0, 2, 1, 3] (addf (addf (mulf (broadcastInDim S4x8x2048x128 ![0, 1, 2, 3] bcast_S4x8x2048x1_S4x8x2048x128_0_1_2_3 (broadcastInDim S4x8x2048x1 ![0, 1, 2] bcast_S4x8x2048_S4x8x2048x1_0_1_2 (Host.divf E1 DEN))) (Host.dotGeneral dot_S4x8x2048x2048_S4x8x2048x128_S4x8x2048x128_3_2_2_3_01_01 none (Host.exp (subf L1 (broadcastInDim S4x8x2048x2048 ![0, 1, 2, 3] bcast_S4x8x2048x1_S4x8x2048x2048_0_1_2_3 (broadcastInDim S4x8x2048x1 ![0, 1, 2] bcast_S4x8x2048_S4x8x2048x1_0_1_2 S1)))) VAL)) (mulf (broadcastInDim S4x8x2048x128 ![0, 1, 2, 3] bcast_S4x8x2048x1_S4x8x2048x128_0_1_2_3 (broadcastInDim S4x8x2048x1 ![0, 1, 2] bcast_S4x8x2048_S4x8x2048x1_0_1_2 (Host.divf E2 DEN))) (Host.dotGeneral dot_S4x8x2048x2048_S4x8x2048x128_S4x8x2048x128_3_2_2_3_01_01 none (Host.exp (subf L2 (broadcastInDim S4x8x2048x2048 ![0, 1, 2, 3] bcast_S4x8x2048x1_S4x8x2048x2048_0_1_2_3 (broadcastInDim S4x8x2048x1 ![0, 1, 2] bcast_S4x8x2048_S4x8x2048x1_0_1_2 S2)))) VAL))) (mulf (broadcastInDim S4x8x2048x128 ![0, 1, 2, 3] bcast_S4x8x2048x1_S4x8x2048x128_0_1_2_3 (broadcastInDim S4x8x2048x1 ![0, 1, 2] bcast_S4x8x2048_S4x8x2048x1_0_1_2 (Host.divf E3 DEN))) (Host.dotGeneral dot_S4x8x2048x2048_S4x8x2048x128_S4x8x2048x128_3_2_2_3_01_01 none (Host.exp (subf L3 (broadcastInDim S4x8x2048x2048 ![0, 1, 2, 3] bcast_S4x8x2048x1_S4x8x2048x2048_0_1_2_3 (broadcastInDim S4x8x2048x1 ![0, 1, 2] bcast_S4x8x2048_S4x8x2048x1_0_1_2 S3)))) VAL))) transposes_S4x8x2048x128_S4x2048x8x128_0_2_1_3) shapeCasts_S4x2048x8x128_S8192x1024) bitsLt_bf16_f32

set_option maxHeartbeats 2000000 in
theorem mix_at (b : Fin 4) (h : Fin 8) (q : Fin 2048) (d : Fin 128) (r : Fin 8192) (k : Fin 1024)
    (hr : r.val = b.val * 2048 + q.val) (hk : k.val = h.val * 128 + d.val) :
    MIX L1 L2 L3 S1 S2 S3 E1 E2 E3 DEN VAL (ix2 r k)
      = Ideal.div (E1 (ix3 b h q)) (DEN (ix3 b h q)) * (∑ j : Fin 2048, Ideal.exp (L1 (ix4 b h q j) - S1 (ix3 b h q)) * VAL (ix4 b h j d))
        + Ideal.div (E2 (ix3 b h q)) (DEN (ix3 b h q)) * (∑ j : Fin 2048, Ideal.exp (L2 (ix4 b h q j) - S2 (ix3 b h q)) * VAL (ix4 b h j d))
        + Ideal.div (E3 (ix3 b h q)) (DEN (ix3 b h q)) * (∑ j : Fin 2048, Ideal.exp (L3 (ix4 b h q j) - S3 (ix3 b h q)) * VAL (ix4 b h j d)) := by
  obtain ⟨b, hb⟩ := b
  obtain ⟨h, hh⟩ := h
  obtain ⟨q, hq⟩ := q
  obtain ⟨d, hd⟩ := d
  obtain ⟨r, hr'⟩ := r
  obtain ⟨k, hk'⟩ := k
  simp only at hr hk
  obtain rfl : b = r / 2048 := by omega
  obtain rfl : q = r % 2048 := by omega
  obtain rfl : h = k / 128 := by omega
  obtain rfl : d = k % 128 := by omega
  pointwise [MIX]

theorem add3 (x y z : FVec Ideal S4x8x2048 .f32) (i : S4x8x2048.Idx) : addf (addf x y) z i = x i + y i + z i := rfl
theorem max3 (x y z : FVec Ideal S4x8x2048 .f32) (i : S4x8x2048.Idx) : maximumf (maximumf x y) z i = max (max (x i) (y i)) (z i) := rfl
theorem expsub (x y : FVec Ideal S4x8x2048 .f32) (i : S4x8x2048.Idx) : Host.exp (subf x y) i = Ideal.exp (x i - y i) := rfl

end mix

variable (V0 : Valuation τ sig (Elt Ideal)) (X : Fin 8192 → Fin 9216 → ℝ)

/-- The argument, at its array type. -/
def ARG : FVec Ideal S8192x9216 .f32 := V0 (Proc.devRef .tc main_arg0)

/-! The reference's arrays, at their array types. -/
def VAL : FVec Ideal S4x8x2048x128 .f32 := res_main_v8 V0
def LG : FVec Ideal S4x8x2048x2048 .f32 := res_main_v13 V0
def L1 : FVec Ideal S4x8x2048x2048 .f32 := res_main_v29 V0
def L2 : FVec Ideal S4x8x2048x2048 .f32 := res_main_v55 V0
def L3 : FVec Ideal S4x8x2048x2048 .f32 := res_main_v81 V0
def S1 : FVec Ideal S4x8x2048 .f32 := res_main_v37 V0
def S2 : FVec Ideal S4x8x2048 .f32 := res_main_v63 V0
def S3 : FVec Ideal S4x8x2048 .f32 := res_main_v89 V0
def TOP : FVec Ideal S4x8x2048 .f32 := res_main_v96 V0
def E1 : FVec Ideal S4x8x2048 .f32 := res_main_v98 V0
def E2 : FVec Ideal S4x8x2048 .f32 := res_main_v100 V0
def E3 : FVec Ideal S4x8x2048 .f32 := res_main_v102 V0
def DEN : FVec Ideal S4x8x2048 .f32 := res_main_v104 V0

/-- The result. -/
def OUT : FVec Ideal S8192x1024 .bf16 :=
  MIX (L1 V0) (L2 V0) (L3 V0) (S1 V0) (S2 V0) (S3 V0) (E1 V0) (E2 V0) (E3 V0) (DEN V0) (VAL V0)

theorem den_eq : DEN V0 = addf (addf (E1 V0) (E2 V0)) (E3 V0) := rfl
theorem top_eq : TOP V0 = maximumf (maximumf (S1 V0) (S2 V0)) (S3 V0) := rfl
theorem e1_eq : E1 V0 = Host.exp (subf (S1 V0) (TOP V0)) := rfl
theorem e2_eq : E2 V0 = Host.exp (subf (S2 V0) (TOP V0)) := rfl
theorem e3_eq : E3 V0 = Host.exp (subf (S3 V0) (TOP V0)) := rfl
theorem den_at (i : S4x8x2048.Idx) : DEN V0 i = E1 V0 i + E2 V0 i + E3 V0 i := (congrFun (den_eq V0) i).trans (add3 _ _ _ i)
theorem top_at (i : S4x8x2048.Idx) : TOP V0 i = max (max (S1 V0 i) (S2 V0 i)) (S3 V0 i) :=
  (congrFun (top_eq V0) i).trans (max3 _ _ _ i)
theorem e1_at (i : S4x8x2048.Idx) : E1 V0 i = Ideal.exp (S1 V0 i - TOP V0 i) := (congrFun (e1_eq V0) i).trans (expsub _ _ i)
theorem e2_at (i : S4x8x2048.Idx) : E2 V0 i = Ideal.exp (S2 V0 i - TOP V0 i) := (congrFun (e2_eq V0) i).trans (expsub _ _ i)
theorem e3_at (i : S4x8x2048.Idx) : E3 V0 i = Ideal.exp (S3 V0 i - TOP V0 i) := (congrFun (e3_eq V0) i).trans (expsub _ _ i)

variable (hX : ∀ r k, ARG V0 (ix2 r k) = ((X r k : ℝ) : EReal))
include hX

theorem val_at (b : Fin 4) (h : Fin 8) (j : Fin 2048) (d : Fin 128) :
    VAL V0 (ix4 b h j d) = ((val X b h j d : ℝ) : EReal) := by
  pointwise [VAL, res_main_v8]
  exact hX _ _

theorem logit_at (b : Fin 4) (h : Fin 8) (q j : Fin 2048) :
    LG V0 (ix4 b h q j) = ((logit X b h q j : ℝ) : EReal) := by
  pointwise [LG, res_main_v13]
  unfold logit
  rw [EReal.coe_mul, ← sum_coe]
  refine congrArg₂ (fun a b : EReal => a * b) (Finset.sum_congr rfl fun x _ => ?_) scale_val
  rw [EReal.coe_mul]
  exact congrArg₂ (fun a b : EReal => a * b) (hX _ _) (hX _ _)

/-! The pattern of window 128. -/

omit hX in
theorem ok1_self (q : Fin 2048) : ok1 q q := by
  show bit (dist q.val q.val) 0#32 128#32 = 1
  rw [dist_self]; decide

theorem score1 (b : Fin 4) (h : Fin 8) (q j : Fin 2048) :
    L1 V0 (ix4 b h q j) = if ok1 q j then ((logit X b h q j : ℝ) : EReal) else ⊥ := by
  pointwise [L1, res_main_v29, res_main_v16]
  rw [lit_neg_inf]
  exact congrArg (fun e : EReal => if ok1 q j then e else ⊥) (logit_at V0 X hX b h q j)

theorem lse1 (b : Fin 4) (h : Fin 8) (q : Fin 2048) :
    S1 V0 (ix3 b h q) = ((Real.log (tot (ok1 q) (logit X b h q)) : ℝ) : EReal) := by
  have hm := mx_real (L1 V0) b h q
    (fun i => by idx_vars i; rw [score1 V0 X hX]; split; exacts [EReal.coe_ne_top _, bot_ne_top])
    (by rw [score1 V0 X hX, if_pos (ok1_self q)]; exact EReal.coe_ne_bot _)
  have e := lse_val (ok1 q) (logit X b h q) (fun j => L1 V0 (ix4 b h q j)) (score1 V0 X hX b h q) q (ok1_self q) _ hm
  exact (lse_at (L1 V0) (MX (L1 V0)) b h q).trans e

theorem part1 (b : Fin 4) (h : Fin 8) (q : Fin 2048) (d : Fin 128) :
    (∑ j : Fin 2048, Ideal.exp (L1 V0 (ix4 b h q j) - S1 V0 (ix3 b h q)) * VAL V0 (ix4 b h j d))
      = (((∑ j, wt (ok1 q) (logit X b h q) j * val X b h j d) / tot (ok1 q) (logit X b h q) : ℝ) : EReal) := by
  rw [lse1 V0 X hX]
  refine Eq.trans (Finset.sum_congr rfl fun j _ => ?_)
    (out_val (ok1 q) (logit X b h q) (fun j => L1 V0 (ix4 b h q j)) (score1 V0 X hX b h q)
      (fun j => val X b h j d) q (ok1_self q))
  rw [val_at V0 X hX]

/-! The pattern of window 512. -/

omit hX in
theorem ok2_self (q : Fin 2048) : ok2 q q := by
  show bit (dist q.val q.val) 3#32 512#32 = 1
  rw [dist_self]; decide

theorem score2 (b : Fin 4) (h : Fin 8) (q j : Fin 2048) :
    L2 V0 (ix4 b h q j) = if ok2 q j then ((logit X b h q j : ℝ) : EReal) else ⊥ := by
  pointwise [L2, res_main_v55, res_main_v16]
  rw [lit_neg_inf]
  exact congrArg (fun e : EReal => if ok2 q j then e else ⊥) (logit_at V0 X hX b h q j)

theorem lse2 (b : Fin 4) (h : Fin 8) (q : Fin 2048) :
    S2 V0 (ix3 b h q) = ((Real.log (tot (ok2 q) (logit X b h q)) : ℝ) : EReal) := by
  have hm := mx_real (L2 V0) b h q
    (fun i => by idx_vars i; rw [score2 V0 X hX]; split; exacts [EReal.coe_ne_top _, bot_ne_top])
    (by rw [score2 V0 X hX, if_pos (ok2_self q)]; exact EReal.coe_ne_bot _)
  have e := lse_val (ok2 q) (logit X b h q) (fun j => L2 V0 (ix4 b h q j)) (score2 V0 X hX b h q) q (ok2_self q) _ hm
  exact (lse_at (L2 V0) (MX (L2 V0)) b h q).trans e

theorem part2 (b : Fin 4) (h : Fin 8) (q : Fin 2048) (d : Fin 128) :
    (∑ j : Fin 2048, Ideal.exp (L2 V0 (ix4 b h q j) - S2 V0 (ix3 b h q)) * VAL V0 (ix4 b h j d))
      = (((∑ j, wt (ok2 q) (logit X b h q) j * val X b h j d) / tot (ok2 q) (logit X b h q) : ℝ) : EReal) := by
  rw [lse2 V0 X hX]
  refine Eq.trans (Finset.sum_congr rfl fun j _ => ?_)
    (out_val (ok2 q) (logit X b h q) (fun j => L2 V0 (ix4 b h q j)) (score2 V0 X hX b h q)
      (fun j => val X b h j d) q (ok2_self q))
  rw [val_at V0 X hX]

/-! The pattern of window 2048. -/

omit hX in
theorem ok3_self (q : Fin 2048) : ok3 q q := by
  show bit (dist q.val q.val) 15#32 2048#32 = 1
  rw [dist_self]; decide

theorem score3 (b : Fin 4) (h : Fin 8) (q j : Fin 2048) :
    L3 V0 (ix4 b h q j) = if ok3 q j then ((logit X b h q j : ℝ) : EReal) else ⊥ := by
  pointwise [L3, res_main_v81, res_main_v16]
  rw [lit_neg_inf]
  exact congrArg (fun e : EReal => if ok3 q j then e else ⊥) (logit_at V0 X hX b h q j)

theorem lse3 (b : Fin 4) (h : Fin 8) (q : Fin 2048) :
    S3 V0 (ix3 b h q) = ((Real.log (tot (ok3 q) (logit X b h q)) : ℝ) : EReal) := by
  have hm := mx_real (L3 V0) b h q
    (fun i => by idx_vars i; rw [score3 V0 X hX]; split; exacts [EReal.coe_ne_top _, bot_ne_top])
    (by rw [score3 V0 X hX, if_pos (ok3_self q)]; exact EReal.coe_ne_bot _)
  have e := lse_val (ok3 q) (logit X b h q) (fun j => L3 V0 (ix4 b h q j)) (score3 V0 X hX b h q) q (ok3_self q) _ hm
  exact (lse_at (L3 V0) (MX (L3 V0)) b h q).trans e

theorem part3 (b : Fin 4) (h : Fin 8) (q : Fin 2048) (d : Fin 128) :
    (∑ j : Fin 2048, Ideal.exp (L3 V0 (ix4 b h q j) - S3 V0 (ix3 b h q)) * VAL V0 (ix4 b h j d))
      = (((∑ j, wt (ok3 q) (logit X b h q) j * val X b h j d) / tot (ok3 q) (logit X b h q) : ℝ) : EReal) := by
  rw [lse3 V0 X hX]
  refine Eq.trans (Finset.sum_congr rfl fun j _ => ?_)
    (out_val (ok3 q) (logit X b h q) (fun j => L3 V0 (ix4 b h q j)) (score3 V0 X hX b h q)
      (fun j => val X b h j d) q (ok3_self q))
  rw [val_at V0 X hX]

/-! ## The mix -/

omit hX in
theorem wt_sum (b : Fin 4) (h : Fin 8) (q j : Fin 2048) :
    wt (ok1 q) (logit X b h q) j + wt (ok2 q) (logit X b h q) j + wt (ok3 q) (logit X b h q) j
      = cnt (dist q.val j.val) * Real.exp (logit X b h q j) := by
  unfold wt cnt
  rw [bit_mul, bit_mul, bit_mul]; ring

theorem out_at (b : Fin 4) (h : Fin 8) (q : Fin 2048) (d : Fin 128) (r : Fin 8192) (k : Fin 1024)
    (hr : r.val = b.val * 2048 + q.val) (hk : k.val = h.val * 128 + d.val) :
    OUT V0 (ix2 r k) = ((out X b h q d : ℝ) : EReal) := by
  have e := mix_val _ _ _ (∑ j, wt (ok1 q) (logit X b h q) j * val X b h j d) (∑ j, wt (ok2 q) (logit X b h q) j * val X b h j d)
    (∑ j, wt (ok3 q) (logit X b h q) j * val X b h j d) (tot_pos (ok1 q) (logit X b h q) q (ok1_self q))
    (tot_pos (ok2 q) (logit X b h q) q (ok2_self q)) (tot_pos (ok3 q) (logit X b h q) q (ok3_self q))
    (TOP V0 (ix3 b h q)) (E1 V0 (ix3 b h q)) (E2 V0 (ix3 b h q)) (E3 V0 (ix3 b h q))
    (by rw [top_at, lse1 V0 X hX, lse2 V0 X hX, lse3 V0 X hX])
    (by rw [e1_at, lse1 V0 X hX]) (by rw [e2_at, lse2 V0 X hX]) (by rw [e3_at, lse3 V0 X hX])
  have g : (((∑ j, wt (ok1 q) (logit X b h q) j * val X b h j d) + (∑ j, wt (ok2 q) (logit X b h q) j * val X b h j d)
      + (∑ j, wt (ok3 q) (logit X b h q) j * val X b h j d)) / (tot (ok1 q) (logit X b h q) + tot (ok2 q) (logit X b h q)
      + tot (ok3 q) (logit X b h q)) : ℝ) = out X b h q d := by
    unfold out tot
    rw [← Finset.sum_add_distrib, ← Finset.sum_add_distrib, ← Finset.sum_add_distrib, ← Finset.sum_add_distrib]
    refine congrArg₂ (fun a b : ℝ => a / b) (Finset.sum_congr rfl fun j _ => ?_) (Finset.sum_congr rfl fun j _ => wt_sum X b h q j)
    rw [← add_mul, ← add_mul, wt_sum]
  unfold OUT
  rw [mix_at _ _ _ _ _ _ _ _ _ _ _ b h q d r k hr hk, part1 V0 X hX, part2 V0 X hX, part3 V0 X hX, den_at, ← g]
  exact e

end Cert.ReferenceIdeal.Term

end
-- ==== Proof.MixTiles.lean ====
/- The tiles of the fused mixers kernel's dilated attention: each row tile of 256 queries, as one quotient of two sums over
   all keys, and the tiles the body stores. -/
module

public import proofs.«01_k».proof.Proof.MixRef
public import proofs.«01_k».proof.Proof.Body
public import Idealize.ShloMosaic.Lib.Pipeline.ValueKit

@[expose] public section

set_option maxRecDepth 65536

noncomputable section

open Idealize.ShloMosaic Idealize.ShloMosaic.TcCoe Idealize.SL.Sem

namespace Cert.KernelIdeal.Tiles

open Cert.KernelIdeal Cert.KernelIdeal.Gen Cert.KernelIdeal.Hand
open Cert.SoftMix

/-! ## Sums over the first keys -/

theorem sum_first {w : ℕ} (hw : w ≤ 2048) (f : Fin 2048 → ℝ) (h : ∀ j : Fin 2048, w ≤ j.val → f j = 0) :
    (∑ j : Fin w, f ⟨j.val, by omega⟩) = ∑ j : Fin 2048, f j := by
  let g : ℕ → ℝ := fun n => if hn : n < 2048 then f ⟨n, hn⟩ else 0
  have h1 : (∑ j : Fin w, f ⟨j.val, by omega⟩) = ∑ n ∈ Finset.range w, g n := by
    rw [← Fin.sum_univ_eq_sum_range]
    exact Finset.sum_congr rfl fun j _ => by
      have hj : j.val < 2048 := by omega
      simp only [g, dif_pos hj]
  have h2 : (∑ j : Fin 2048, f j) = ∑ n ∈ Finset.range 2048, g n := by
    rw [← Fin.sum_univ_eq_sum_range]
    exact Finset.sum_congr rfl fun j _ => by simp only [g, dif_pos j.isLt]
  rw [h1, h2]
  refine Finset.sum_subset (fun n hn => Finset.mem_range.mpr (lt_of_lt_of_le (Finset.mem_range.mp hn) hw)) fun n hn hn' => ?_
  have a := Finset.mem_range.mp hn
  have b : w ≤ n := not_lt.mp fun hl => hn' (Finset.mem_range.mpr hl)
  exact (dif_pos a).trans (h ⟨n, a⟩ b)

/-- A weighted row over the first `w` keys, the later keys having no weight. -/
theorem row_first {w : ℕ} (hw : w ≤ 2048) (a : ℕ) (ha : a < w) (z v : Fin 2048 → ℝ) (s : Fin w → EReal)
    (hs : ∀ j : Fin w, s j = ((z ⟨j.val, by omega⟩ : ℝ) : EReal)
      + Ideal.div (Ideal.log ((cnt (dist a j.val) : ℝ) : EReal)) ((Real.log 2 : ℝ) : EReal))
    (hlast : ∀ j : Fin 2048, w ≤ j.val → a < j.val) :
    Ideal.div (∑ j : Fin w, Ideal.exp2 (s j - Finset.univ.fold max (⊥ : EReal) s) * ((v ⟨j.val, by omega⟩ : ℝ) : EReal))
        (∑ j : Fin w, Ideal.exp2 (s j - Finset.univ.fold max (⊥ : EReal) s))
      = (((∑ j : Fin 2048, cnt (dist a j.val) * (2 : ℝ) ^ z j * v j) / (∑ j : Fin 2048, cnt (dist a j.val) * (2 : ℝ) ^ z j) : ℝ) : EReal) := by
  have hc : ∀ j : Fin w, 0 ≤ cnt (dist a j.val) := fun j => cnt_nonneg _
  have h0 : 0 < cnt (dist a (⟨a, ha⟩ : Fin w).val) := cnt_self a
  have e := row_val (fun j : Fin w => cnt (dist a j.val)) (fun j : Fin w => z ⟨j.val, by omega⟩) s hs hc
    (fun j : Fin w => v ⟨j.val, by omega⟩) ⟨a, ha⟩ h0 (Finset.univ.fold max (⊥ : EReal) s)
    (top_real Finset.univ s (s_top _ _ s hs hc) ⟨a, ha⟩ (Finset.mem_univ _) (s_bot _ _ s hs hc ⟨a, ha⟩ h0))
  simp only [mul_one] at e
  rw [e]
  have z0 : ∀ j : Fin 2048, w ≤ j.val → cnt (dist a j.val) = 0 := fun j hj => cnt_after a j.val (hlast j hj) j.isLt.le
  have e1 := sum_first hw (fun j => cnt (dist a j.val) * (2 : ℝ) ^ z j * v j) (fun j hj => by simp only [z0 j hj, zero_mul])
  have e2 := sum_first hw (fun j => cnt (dist a j.val) * (2 : ℝ) ^ z j) (fun j hj => by simp only [z0 j hj, zero_mul])
  rw [← e1, ← e2]

theorem lit_neg_inf : Ideal.ofBits .f32 0xFF800000#32 = (⊥ : EReal) := by
  simp [Ideal.ofBits, Ideal.ieee]

/-! ## The tiles -/

section tiles

variable (Q K V : FVec Ideal S2048x128 .bf16)

/-- The values with a block of ones. -/
def AUG : FVec Ideal S2048x256 .bf16 :=
  concatenate S2048x256 1 [⟨S2048x128, V⟩, ⟨S2048x128, (broadcast S2048x128 (Scalar.ofBits .bf16 0x3F80#16) : FVec Ideal S2048x128 .bf16)⟩]
    concatenates_S2048x128_S2048x128_S2048x256_d1

/-! Rows 0 to 255. -/

/-- The scores. -/
def SC0 (L : FVec Ideal S256x256 .f32) : FVec Ideal S256x256 .f32 :=
  addf (matmul dot_S256x128_S256x128_S256x256_1_1_0_0_n_n none
    (extractStridedSlice S256x128 ![0, 0] Q slices_S2048x128_o0_0_S256x128)
    (extractStridedSlice S256x128 ![0, 0] K slices_S2048x128_o0_0_S256x128) (constant S256x256 .f32 0x00000000#32)) L

/-- The products with the values and ones, from the scores. -/
def PV0 (S : FVec Ideal S256x256 .f32) : FVec Ideal S256x256 .f32 :=
  matmul dot_S256x256_S256x256_S256x256_1_0_0_1_n_n none
    (truncf .bf16 (exp2 (subf S (broadcastTo S256x256 (shapeCast S256x1
      (multiReduction .maximumf [1] S256 S 0xFF800000#32 reduces_S256x256_S256 (.inl rfl) rfl) shapeCasts_S256_S256x1)
      broadcasts_S256x1_S256x256))) bitsLt_bf16_f32)
    (extractStridedSlice S256x256 ![0, 0] (AUG V) slices_S2048x256_o0_0_S256x256) (constant S256x256 .f32 0x00000000#32)

/-- The tile. -/
def TILE0 (S : FVec Ideal S256x256 .f32) : FVec Ideal S256x128 .bf16 :=
  truncf .bf16 (divf (extractStridedSlice S256x128 ![0, 0] (PV0 V S) slices_S256x256_o0_0_S256x128)
    (extractStridedSlice S256x128 ![0, 128] (PV0 V S) slices_S256x256_o0_128_S256x128)) bitsLt_bf16_f32

theorem sc0_at (L : FVec Ideal S256x256 .f32) (r : Fin 256) (j : Fin 256) :
    SC0 Q K L (ix2 r j) = (∑ x : Fin 128, Q (ix2 ⟨0 + r.val, by omega⟩ x) * K (ix2 ⟨j.val, by omega⟩ x)) + L (ix2 r j) := by
  pointwise [SC0]

set_option maxHeartbeats 2000000 in
theorem tile0_at (S : FVec Ideal S256x256 .f32) (r : Fin 256) (d : Fin 128) :
    TILE0 V S (ix2 r d)
      = Ideal.div (∑ j : Fin 256, Ideal.exp2 (S (ix2 r j) - Finset.univ.fold max (⊥ : EReal) (fun k : Fin 256 => S (ix2 r k))) * V (ix2 ⟨j.val, by omega⟩ d))
          (∑ j : Fin 256, Ideal.exp2 (S (ix2 r j) - Finset.univ.fold max (⊥ : EReal) (fun k : Fin 256 => S (ix2 r k)))) := by
  have hd := d.isLt
  pointwise [TILE0, PV0, AUG]
  rw [lit_neg_inf]
  rfl

/-! Rows 256 to 511. -/

/-- The scores. -/
def SC1 (L : FVec Ideal S256x512 .f32) : FVec Ideal S256x512 .f32 :=
  addf (matmul dot_S256x128_S512x128_S256x512_1_1_0_0_n_n none
    (extractStridedSlice S256x128 ![256, 0] Q slices_S2048x128_o256_0_S256x128)
    (extractStridedSlice S512x128 ![0, 0] K slices_S2048x128_o0_0_S512x128) (constant S256x512 .f32 0x00000000#32)) L

/-- The products with the values and ones, from the scores. -/
def PV1 (S : FVec Ideal S256x512 .f32) : FVec Ideal S256x256 .f32 :=
  matmul dot_S256x512_S512x256_S256x256_1_0_0_1_n_n none
    (truncf .bf16 (exp2 (subf S (broadcastTo S256x512 (shapeCast S256x1
      (multiReduction .maximumf [1] S256 S 0xFF800000#32 reduces_S256x512_S256 (.inl rfl) rfl) shapeCasts_S256_S256x1)
      broadcasts_S256x1_S256x512))) bitsLt_bf16_f32)
    (extractStridedSlice S512x256 ![0, 0] (AUG V) slices_S2048x256_o0_0_S512x256) (constant S256x256 .f32 0x00000000#32)

/-- The tile. -/
def TILE1 (S : FVec Ideal S256x512 .f32) : FVec Ideal S256x128 .bf16 :=
  truncf .bf16 (divf (extractStridedSlice S256x128 ![0, 0] (PV1 V S) slices_S256x256_o0_0_S256x128)
    (extractStridedSlice S256x128 ![0, 128] (PV1 V S) slices_S256x256_o0_128_S256x128)) bitsLt_bf16_f32

theorem sc1_at (L : FVec Ideal S256x512 .f32) (r : Fin 256) (j : Fin 512) :
    SC1 Q K L (ix2 r j) = (∑ x : Fin 128, Q (ix2 ⟨256 + r.val, by omega⟩ x) * K (ix2 ⟨j.val, by omega⟩ x)) + L (ix2 r j) := by
  pointwise [SC1]

set_option maxHeartbeats 2000000 in
theorem tile1_at (S : FVec Ideal S256x512 .f32) (r : Fin 256) (d : Fin 128) :
    TILE1 V S (ix2 r d)
      = Ideal.div (∑ j : Fin 512, Ideal.exp2 (S (ix2 r j) - Finset.univ.fold max (⊥ : EReal) (fun k : Fin 512 => S (ix2 r k))) * V (ix2 ⟨j.val, by omega⟩ d))
          (∑ j : Fin 512, Ideal.exp2 (S (ix2 r j) - Finset.univ.fold max (⊥ : EReal) (fun k : Fin 512 => S (ix2 r k)))) := by
  have hd := d.isLt
  pointwise [TILE1, PV1, AUG]
  rw [lit_neg_inf]
  rfl

/-! Rows 512 to 767. -/

/-- The scores. -/
def SC2 (L : FVec Ideal S256x768 .f32) : FVec Ideal S256x768 .f32 :=
  addf (matmul dot_S256x128_S768x128_S256x768_1_1_0_0_n_n none
    (extractStridedSlice S256x128 ![512, 0] Q slices_S2048x128_o512_0_S256x128)
    (extractStridedSlice S768x128 ![0, 0] K slices_S2048x128_o0_0_S768x128) (constant S256x768 .f32 0x00000000#32)) L

/-- The products with the values and ones, from the scores. -/
def PV2 (S : FVec Ideal S256x768 .f32) : FVec Ideal S256x256 .f32 :=
  matmul dot_S256x768_S768x256_S256x256_1_0_0_1_n_n none
    (truncf .bf16 (exp2 (subf S (broadcastTo S256x768 (shapeCast S256x1
      (multiReduction .maximumf [1] S256 S 0xFF800000#32 reduces_S256x768_S256 (.inl rfl) rfl) shapeCasts_S256_S256x1)
      broadcasts_S256x1_S256x768))) bitsLt_bf16_f32)
    (extractStridedSlice S768x256 ![0, 0] (AUG V) slices_S2048x256_o0_0_S768x256) (constant S256x256 .f32 0x00000000#32)

/-- The tile. -/
def TILE2 (S : FVec Ideal S256x768 .f32) : FVec Ideal S256x128 .bf16 :=
  truncf .bf16 (divf (extractStridedSlice S256x128 ![0, 0] (PV2 V S) slices_S256x256_o0_0_S256x128)
    (extractStridedSlice S256x128 ![0, 128] (PV2 V S) slices_S256x256_o0_128_S256x128)) bitsLt_bf16_f32

theorem sc2_at (L : FVec Ideal S256x768 .f32) (r : Fin 256) (j : Fin 768) :
    SC2 Q K L (ix2 r j) = (∑ x : Fin 128, Q (ix2 ⟨512 + r.val, by omega⟩ x) * K (ix2 ⟨j.val, by omega⟩ x)) + L (ix2 r j) := by
  pointwise [SC2]

set_option maxHeartbeats 2000000 in
theorem tile2_at (S : FVec Ideal S256x768 .f32) (r : Fin 256) (d : Fin 128) :
    TILE2 V S (ix2 r d)
      = Ideal.div (∑ j : Fin 768, Ideal.exp2 (S (ix2 r j) - Finset.univ.fold max (⊥ : EReal) (fun k : Fin 768 => S (ix2 r k))) * V (ix2 ⟨j.val, by omega⟩ d))
          (∑ j : Fin 768, Ideal.exp2 (S (ix2 r j) - Finset.univ.fold max (⊥ : EReal) (fun k : Fin 768 => S (ix2 r k)))) := by
  have hd := d.isLt
  pointwise [TILE2, PV2, AUG]
  rw [lit_neg_inf]
  rfl

/-! Rows 768 to 1023. -/

/-- The scores. -/
def SC3 (L : FVec Ideal S256x1024 .f32) : FVec Ideal S256x1024 .f32 :=
  addf (matmul dot_S256x128_S1024x128_S256x1024_1_1_0_0_n_n none
    (extractStridedSlice S256x128 ![768, 0] Q slices_S2048x128_o768_0_S256x128)
    (extractStridedSlice S1024x128 ![0, 0] K slices_S2048x128_o0_0_S1024x128) (constant S256x1024 .f32 0x00000000#32)) L

/-- The products with the values and ones, from the scores. -/
def PV3 (S : FVec Ideal S256x1024 .f32) : FVec Ideal S256x256 .f32 :=
  matmul dot_S256x1024_S1024x256_S256x256_1_0_0_1_n_n none
    (truncf .bf16 (exp2 (subf S (broadcastTo S256x1024 (shapeCast S256x1
      (multiReduction .maximumf [1] S256 S 0xFF800000#32 reduces_S256x1024_S256 (.inl rfl) rfl) shapeCasts_S256_S256x1)
      broadcasts_S256x1_S256x1024))) bitsLt_bf16_f32)
    (extractStridedSlice S1024x256 ![0, 0] (AUG V) slices_S2048x256_o0_0_S1024x256) (constant S256x256 .f32 0x00000000#32)

/-- The tile. -/
def TILE3 (S : FVec Ideal S256x1024 .f32) : FVec Ideal S256x128 .bf16 :=
  truncf .bf16 (divf (extractStridedSlice S256x128 ![0, 0] (PV3 V S) slices_S256x256_o0_0_S256x128)
    (extractStridedSlice S256x128 ![0, 128] (PV3 V S) slices_S256x256_o0_128_S256x128)) bitsLt_bf16_f32

theorem sc3_at (L : FVec Ideal S256x1024 .f32) (r : Fin 256) (j : Fin 1024) :
    SC3 Q K L (ix2 r j) = (∑ x : Fin 128, Q (ix2 ⟨768 + r.val, by omega⟩ x) * K (ix2 ⟨j.val, by omega⟩ x)) + L (ix2 r j) := by
  pointwise [SC3]

set_option maxHeartbeats 2000000 in
theorem tile3_at (S : FVec Ideal S256x1024 .f32) (r : Fin 256) (d : Fin 128) :
    TILE3 V S (ix2 r d)
      = Ideal.div (∑ j : Fin 1024, Ideal.exp2 (S (ix2 r j) - Finset.univ.fold max (⊥ : EReal) (fun k : Fin 1024 => S (ix2 r k))) * V (ix2 ⟨j.val, by omega⟩ d))
          (∑ j : Fin 1024, Ideal.exp2 (S (ix2 r j) - Finset.univ.fold max (⊥ : EReal) (fun k : Fin 1024 => S (ix2 r k)))) := by
  have hd := d.isLt
  pointwise [TILE3, PV3, AUG]
  rw [lit_neg_inf]
  rfl

/-! Rows 1024 to 1279. -/

/-- The scores. -/
def SC4 (L : FVec Ideal S256x1280 .f32) : FVec Ideal S256x1280 .f32 :=
  addf (matmul dot_S256x128_S1280x128_S256x1280_1_1_0_0_n_n none
    (extractStridedSlice S256x128 ![1024, 0] Q slices_S2048x128_o1024_0_S256x128)
    (extractStridedSlice S1280x128 ![0, 0] K slices_S2048x128_o0_0_S1280x128) (constant S256x1280 .f32 0x00000000#32)) L

/-- The products with the values and ones, from the scores. -/
def PV4 (S : FVec Ideal S256x1280 .f32) : FVec Ideal S256x256 .f32 :=
  matmul dot_S256x1280_S1280x256_S256x256_1_0_0_1_n_n none
    (truncf .bf16 (exp2 (subf S (broadcastTo S256x1280 (shapeCast S256x1
      (multiReduction .maximumf [1] S256 S 0xFF800000#32 reduces_S256x1280_S256 (.inl rfl) rfl) shapeCasts_S256_S256x1)
      broadcasts_S256x1_S256x1280))) bitsLt_bf16_f32)
    (extractStridedSlice S1280x256 ![0, 0] (AUG V) slices_S2048x256_o0_0_S1280x256) (constant S256x256 .f32 0x00000000#32)

/-- The tile. -/
def TILE4 (S : FVec Ideal S256x1280 .f32) : FVec Ideal S256x128 .bf16 :=
  truncf .bf16 (divf (extractStridedSlice S256x128 ![0, 0] (PV4 V S) slices_S256x256_o0_0_S256x128)
    (extractStridedSlice S256x128 ![0, 128] (PV4 V S) slices_S256x256_o0_128_S256x128)) bitsLt_bf16_f32

theorem sc4_at (L : FVec Ideal S256x1280 .f32) (r : Fin 256) (j : Fin 1280) :
    SC4 Q K L (ix2 r j) = (∑ x : Fin 128, Q (ix2 ⟨1024 + r.val, by omega⟩ x) * K (ix2 ⟨j.val, by omega⟩ x)) + L (ix2 r j) := by
  pointwise [SC4]

set_option maxHeartbeats 2000000 in
theorem tile4_at (S : FVec Ideal S256x1280 .f32) (r : Fin 256) (d : Fin 128) :
    TILE4 V S (ix2 r d)
      = Ideal.div (∑ j : Fin 1280, Ideal.exp2 (S (ix2 r j) - Finset.univ.fold max (⊥ : EReal) (fun k : Fin 1280 => S (ix2 r k))) * V (ix2 ⟨j.val, by omega⟩ d))
          (∑ j : Fin 1280, Ideal.exp2 (S (ix2 r j) - Finset.univ.fold max (⊥ : EReal) (fun k : Fin 1280 => S (ix2 r k)))) := by
  have hd := d.isLt
  pointwise [TILE4, PV4, AUG]
  rw [lit_neg_inf]
  rfl

/-! Rows 1280 to 1535. -/

/-- The scores. -/
def SC5 (L : FVec Ideal S256x1536 .f32) : FVec Ideal S256x1536 .f32 :=
  addf (matmul dot_S256x128_S1536x128_S256x1536_1_1_0_0_n_n none
    (extractStridedSlice S256x128 ![1280, 0] Q slices_S2048x128_o1280_0_S256x128)
    (extractStridedSlice S1536x128 ![0, 0] K slices_S2048x128_o0_0_S1536x128) (constant S256x1536 .f32 0x00000000#32)) L

/-- The products with the values and ones, from the scores. -/
def PV5 (S : FVec Ideal S256x1536 .f32) : FVec Ideal S256x256 .f32 :=
  matmul dot_S256x1536_S1536x256_S256x256_1_0_0_1_n_n none
    (truncf .bf16 (exp2 (subf S (broadcastTo S256x1536 (shapeCast S256x1
      (multiReduction .maximumf [1] S256 S 0xFF800000#32 reduces_S256x1536_S256 (.inl rfl) rfl) shapeCasts_S256_S256x1)
      broadcasts_S256x1_S256x1536))) bitsLt_bf16_f32)
    (extractStridedSlice S1536x256 ![0, 0] (AUG V) slices_S2048x256_o0_0_S1536x256) (constant S256x256 .f32 0x00000000#32)

/-- The tile. -/
def TILE5 (S : FVec Ideal S256x1536 .f32) : FVec Ideal S256x128 .bf16 :=
  truncf .bf16 (divf (extractStridedSlice S256x128 ![0, 0] (PV5 V S) slices_S256x256_o0_0_S256x128)
    (extractStridedSlice S256x128 ![0, 128] (PV5 V S) slices_S256x256_o0_128_S256x128)) bitsLt_bf16_f32

theorem sc5_at (L : FVec Ideal S256x1536 .f32) (r : Fin 256) (j : Fin 1536) :
    SC5 Q K L (ix2 r j) = (∑ x : Fin 128, Q (ix2 ⟨1280 + r.val, by omega⟩ x) * K (ix2 ⟨j.val, by omega⟩ x)) + L (ix2 r j) := by
  pointwise [SC5]

set_option maxHeartbeats 2000000 in
theorem tile5_at (S : FVec Ideal S256x1536 .f32) (r : Fin 256) (d : Fin 128) :
    TILE5 V S (ix2 r d)
      = Ideal.div (∑ j : Fin 1536, Ideal.exp2 (S (ix2 r j) - Finset.univ.fold max (⊥ : EReal) (fun k : Fin 1536 => S (ix2 r k))) * V (ix2 ⟨j.val, by omega⟩ d))
          (∑ j : Fin 1536, Ideal.exp2 (S (ix2 r j) - Finset.univ.fold max (⊥ : EReal) (fun k : Fin 1536 => S (ix2 r k)))) := by
  have hd := d.isLt
  pointwise [TILE5, PV5, AUG]
  rw [lit_neg_inf]
  rfl

/-! Rows 1536 to 1791. -/

/-- The scores. -/
def SC6 (L : FVec Ideal S256x1792 .f32) : FVec Ideal S256x1792 .f32 :=
  addf (matmul dot_S256x128_S1792x128_S256x1792_1_1_0_0_n_n none
    (extractStridedSlice S256x128 ![1536, 0] Q slices_S2048x128_o1536_0_S256x128)
    (extractStridedSlice S1792x128 ![0, 0] K slices_S2048x128_o0_0_S1792x128) (constant S256x1792 .f32 0x00000000#32)) L

/-- The products with the values and ones, from the scores. -/
def PV6 (S : FVec Ideal S256x1792 .f32) : FVec Ideal S256x256 .f32 :=
  matmul dot_S256x1792_S1792x256_S256x256_1_0_0_1_n_n none
    (truncf .bf16 (exp2 (subf S (broadcastTo S256x1792 (shapeCast S256x1
      (multiReduction .maximumf [1] S256 S 0xFF800000#32 reduces_S256x1792_S256 (.inl rfl) rfl) shapeCasts_S256_S256x1)
      broadcasts_S256x1_S256x1792))) bitsLt_bf16_f32)
    (extractStridedSlice S1792x256 ![0, 0] (AUG V) slices_S2048x256_o0_0_S1792x256) (constant S256x256 .f32 0x00000000#32)

/-- The tile. -/
def TILE6 (S : FVec Ideal S256x1792 .f32) : FVec Ideal S256x128 .bf16 :=
  truncf .bf16 (divf (extractStridedSlice S256x128 ![0, 0] (PV6 V S) slices_S256x256_o0_0_S256x128)
    (extractStridedSlice S256x128 ![0, 128] (PV6 V S) slices_S256x256_o0_128_S256x128)) bitsLt_bf16_f32

theorem sc6_at (L : FVec Ideal S256x1792 .f32) (r : Fin 256) (j : Fin 1792) :
    SC6 Q K L (ix2 r j) = (∑ x : Fin 128, Q (ix2 ⟨1536 + r.val, by omega⟩ x) * K (ix2 ⟨j.val, by omega⟩ x)) + L (ix2 r j) := by
  pointwise [SC6]

set_option maxHeartbeats 2000000 in
theorem tile6_at (S : FVec Ideal S256x1792 .f32) (r : Fin 256) (d : Fin 128) :
    TILE6 V S (ix2 r d)
      = Ideal.div (∑ j : Fin 1792, Ideal.exp2 (S (ix2 r j) - Finset.univ.fold max (⊥ : EReal) (fun k : Fin 1792 => S (ix2 r k))) * V (ix2 ⟨j.val, by omega⟩ d))
          (∑ j : Fin 1792, Ideal.exp2 (S (ix2 r j) - Finset.univ.fold max (⊥ : EReal) (fun k : Fin 1792 => S (ix2 r k)))) := by
  have hd := d.isLt
  pointwise [TILE6, PV6, AUG]
  rw [lit_neg_inf]
  rfl

/-! Rows 1792 to 2047. -/

/-- The scores. -/
def SC7 (L : FVec Ideal S256x2048 .f32) : FVec Ideal S256x2048 .f32 :=
  addf (matmul dot_S256x128_S2048x128_S256x2048_1_1_0_0_n_n none
    (extractStridedSlice S256x128 ![1792, 0] Q slices_S2048x128_o1792_0_S256x128)
    K (constant S256x2048 .f32 0x00000000#32)) L

/-- The products with the values and ones, from the scores. -/
def PV7 (S : FVec Ideal S256x2048 .f32) : FVec Ideal S256x256 .f32 :=
  matmul dot_S256x2048_S2048x256_S256x256_1_0_0_1_n_n none
    (truncf .bf16 (exp2 (subf S (broadcastTo S256x2048 (shapeCast S256x1
      (multiReduction .maximumf [1] S256 S 0xFF800000#32 reduces_S256x2048_S256 (.inl rfl) rfl) shapeCasts_S256_S256x1)
      broadcasts_S256x1_S256x2048))) bitsLt_bf16_f32)
    (AUG V) (constant S256x256 .f32 0x00000000#32)

/-- The tile. -/
def TILE7 (S : FVec Ideal S256x2048 .f32) : FVec Ideal S256x128 .bf16 :=
  truncf .bf16 (divf (extractStridedSlice S256x128 ![0, 0] (PV7 V S) slices_S256x256_o0_0_S256x128)
    (extractStridedSlice S256x128 ![0, 128] (PV7 V S) slices_S256x256_o0_128_S256x128)) bitsLt_bf16_f32

theorem sc7_at (L : FVec Ideal S256x2048 .f32) (r : Fin 256) (j : Fin 2048) :
    SC7 Q K L (ix2 r j) = (∑ x : Fin 128, Q (ix2 ⟨1792 + r.val, by omega⟩ x) * K (ix2 ⟨j.val, by omega⟩ x)) + L (ix2 r j) := by
  pointwise [SC7]

set_option maxHeartbeats 2000000 in
theorem tile7_at (S : FVec Ideal S256x2048 .f32) (r : Fin 256) (d : Fin 128) :
    TILE7 V S (ix2 r d)
      = Ideal.div (∑ j : Fin 2048, Ideal.exp2 (S (ix2 r j) - Finset.univ.fold max (⊥ : EReal) (fun k : Fin 2048 => S (ix2 r k))) * V (ix2 ⟨j.val, by omega⟩ d))
          (∑ j : Fin 2048, Ideal.exp2 (S (ix2 r j) - Finset.univ.fold max (⊥ : EReal) (fun k : Fin 2048 => S (ix2 r k)))) := by
  have hd := d.isLt
  pointwise [TILE7, PV7, AUG]
  rw [lit_neg_inf]
  rfl

end tiles

/-! ## What the body stores -/

section stored

variable (c : Dev nD) (a8 : Memref sig .tc .vmem S2048x128 .bf16) (h8 : a8.IsWhole) (a9 : Memref sig .tc .vmem S2048x128 .bf16) (h9 : a9.IsWhole)
  (a10 : Memref sig .tc .vmem S2048x128 .bf16) (h10 : a10.IsWhole) (a11 : Memref sig .tc .vmem S256x2048 .f32) (h11 : a11.IsWhole)
  (x6 x7 x8 : FVec Ideal S2048x128 .bf16) (x9 : FVec Ideal S256x2048 .f32)

/-! The three whole blocks loaded. -/
theorem load6 : (kernelRun.sl.v440 (F := Ideal) c a8 h8 x6 : FVec Ideal S2048x128 .bf16) = x6 := by
  delta kernelRun.sl.v440
  funext i
  idx_vars i
  pointwise []
  rw [View.readAt_apply, Memref.IsWhole.read_unread]
  exact congrArg x6 (funext fun a => Fin.ext (by fin_cases a <;> exact (Nat.zero_add _).trans (Nat.one_mul _)))

theorem load7 : (kernelRun.sl.v442 (F := Ideal) c a9 h9 x7 : FVec Ideal S2048x128 .bf16) = x7 := by
  delta kernelRun.sl.v442
  funext i
  idx_vars i
  pointwise []
  rw [View.readAt_apply, Memref.IsWhole.read_unread]
  exact congrArg x7 (funext fun a => Fin.ext (by fin_cases a <;> exact (Nat.zero_add _).trans (Nat.one_mul _)))

theorem load8 : (kernelRun.sl.v531 (F := Ideal) c a10 h10 x8 : FVec Ideal S2048x128 .bf16) = x8 := by
  delta kernelRun.sl.v531
  funext i
  idx_vars i
  pointwise []
  rw [View.readAt_apply, Memref.IsWhole.read_unread]
  exact congrArg x8 (funext fun a => Fin.ext (by fin_cases a <;> exact (Nat.zero_add _).trans (Nat.one_mul _)))

variable (q k v : Fin 2048 → Fin 128 → ℝ)

/-- The base-2 score of query row `a` and key `j`. -/
def zz (a : Fin 2048) (j : Fin 2048) : ℝ := ∑ x : Fin 128, q a x * k j x

/-- The attention's output at query row `a`. -/
def res (a : Fin 2048) (d : Fin 128) : ℝ :=
  (∑ j : Fin 2048, cnt (dist a.val j.val) * (2 : ℝ) ^ zz q k a j * v j d) / (∑ j : Fin 2048, cnt (dist a.val j.val) * (2 : ℝ) ^ zz q k a j)

variable (h6 : ∀ a x, x6 (ix2 a x) = ((q a x : ℝ) : EReal)) (h7 : ∀ a x, x7 (ix2 a x) = ((k a x : ℝ) : EReal))
  (hv : ∀ a x, x8 (ix2 a x) = ((v a x : ℝ) : EReal))
  (h9' : ∀ (r : Fin 256) (j : Fin 2048), x9 (ix2 r j) = Ideal.div (Ideal.log ((cnt (IntOp.addi (IntOp.subi (BitVec.ofNat 32 r.val)
    (BitVec.ofNat 32 j.val)) 1792#32) : ℝ) : EReal)) ((Real.log 2 : ℝ) : EReal))

theorem table0 (r : Fin 256) (j : Fin 256) :
    (kernelRun.sl.v447 (F := Ideal) c a11 h11 x9 : FVec Ideal S256x256 .f32) (ix2 r j) = x9 (ix2 r ⟨1792 + j.val, by omega⟩) := by
  delta kernelRun.sl.v447
  pointwise []
  rw [View.readAt_apply, Memref.IsWhole.read_unread]
  refine congrArg x9 (funext fun a => Fin.ext ?_)
  fin_cases a
  · exact (Nat.zero_add _).trans (Nat.one_mul _)
  · exact congrArg (1792 + ·) (Nat.one_mul _)

theorem stored0 : (kernelRun.sl.v540 (F := Ideal) c a8 h8 a9 h9 a10 h10 a11 h11 x6 x7 x8 x9 : FVec Ideal S256x128 .bf16)
    = TILE0 (kernelRun.sl.v531 (F := Ideal) c a10 h10 x8) (SC0 (kernelRun.sl.v440 (F := Ideal) c a8 h8 x6)
        (kernelRun.sl.v442 (F := Ideal) c a9 h9 x7) (kernelRun.sl.v447 (F := Ideal) c a11 h11 x9)) := rfl

include h6 h7 hv h9' in
theorem piece0 (r : Fin 256) (d : Fin 128) :
    (kernelRun.sl.v540 (F := Ideal) c a8 h8 a9 h9 a10 h10 a11 h11 x6 x7 x8 x9 : FVec Ideal S256x128 .bf16) (ix2 r d)
      = ((res q k v ⟨0 + r.val, by omega⟩ d : ℝ) : EReal) := by
  have e := row_first (w := 256) (by omega) (0 + r.val) (by omega) (fun j => zz q k ⟨0 + r.val, by omega⟩ j) (fun j => v j d)
    (fun j => SC0 x6 x7 (kernelRun.sl.v447 (F := Ideal) c a11 h11 x9) (ix2 r j))
    (fun j => by
      have hj := j.isLt
      rw [sc0_at, table0, h9', dist_tile r.val 0 j.val 1792 (by omega)]
      refine congrArg (fun e : EReal => e + Ideal.div (Ideal.log ((cnt (dist (0 + r.val) j.val) : ℝ) : EReal)) ((Real.log 2 : ℝ) : EReal)) ?_
      unfold zz
      rw [← sum_coe]
      exact Finset.sum_congr rfl fun x _ => by rw [h6, h7, EReal.coe_mul])
    (fun j hj => by omega)
  rw [stored0, load6, load7, load8, tile0_at]
  refine Eq.trans ?_ e
  refine congrArg (fun e : EReal => Ideal.div e _) (Finset.sum_congr rfl fun j _ => ?_)
  rw [hv]

theorem table1 (r : Fin 256) (j : Fin 512) :
    (kernelRun.sl.v453 (F := Ideal) c a11 h11 x9 : FVec Ideal S256x512 .f32) (ix2 r j) = x9 (ix2 r ⟨1536 + j.val, by omega⟩) := by
  delta kernelRun.sl.v453
  pointwise []
  rw [View.readAt_apply, Memref.IsWhole.read_unread]
  refine congrArg x9 (funext fun a => Fin.ext ?_)
  fin_cases a
  · exact (Nat.zero_add _).trans (Nat.one_mul _)
  · exact congrArg (1536 + ·) (Nat.one_mul _)

theorem stored1 : (kernelRun.sl.v548 (F := Ideal) c a8 h8 a9 h9 a10 h10 a11 h11 x6 x7 x8 x9 : FVec Ideal S256x128 .bf16)
    = TILE1 (kernelRun.sl.v531 (F := Ideal) c a10 h10 x8) (SC1 (kernelRun.sl.v440 (F := Ideal) c a8 h8 x6)
        (kernelRun.sl.v442 (F := Ideal) c a9 h9 x7) (kernelRun.sl.v453 (F := Ideal) c a11 h11 x9)) := rfl

include h6 h7 hv h9' in
theorem piece1 (r : Fin 256) (d : Fin 128) :
    (kernelRun.sl.v548 (F := Ideal) c a8 h8 a9 h9 a10 h10 a11 h11 x6 x7 x8 x9 : FVec Ideal S256x128 .bf16) (ix2 r d)
      = ((res q k v ⟨256 + r.val, by omega⟩ d : ℝ) : EReal) := by
  have e := row_first (w := 512) (by omega) (256 + r.val) (by omega) (fun j => zz q k ⟨256 + r.val, by omega⟩ j) (fun j => v j d)
    (fun j => SC1 x6 x7 (kernelRun.sl.v453 (F := Ideal) c a11 h11 x9) (ix2 r j))
    (fun j => by
      have hj := j.isLt
      rw [sc1_at, table1, h9', dist_tile r.val 1 j.val 1536 (by omega)]
      refine congrArg (fun e : EReal => e + Ideal.div (Ideal.log ((cnt (dist (256 + r.val) j.val) : ℝ) : EReal)) ((Real.log 2 : ℝ) : EReal)) ?_
      unfold zz
      rw [← sum_coe]
      exact Finset.sum_congr rfl fun x _ => by rw [h6, h7, EReal.coe_mul])
    (fun j hj => by omega)
  rw [stored1, load6, load7, load8, tile1_at]
  refine Eq.trans ?_ e
  refine congrArg (fun e : EReal => Ideal.div e _) (Finset.sum_congr rfl fun j _ => ?_)
  rw [hv]

theorem table2 (r : Fin 256) (j : Fin 768) :
    (kernelRun.sl.v459 (F := Ideal) c a11 h11 x9 : FVec Ideal S256x768 .f32) (ix2 r j) = x9 (ix2 r ⟨1280 + j.val, by omega⟩) := by
  delta kernelRun.sl.v459
  pointwise []
  rw [View.readAt_apply, Memref.IsWhole.read_unread]
  refine congrArg x9 (funext fun a => Fin.ext ?_)
  fin_cases a
  · exact (Nat.zero_add _).trans (Nat.one_mul _)
  · exact congrArg (1280 + ·) (Nat.one_mul _)

theorem stored2 : (kernelRun.sl.v556 (F := Ideal) c a8 h8 a9 h9 a10 h10 a11 h11 x6 x7 x8 x9 : FVec Ideal S256x128 .bf16)
    = TILE2 (kernelRun.sl.v531 (F := Ideal) c a10 h10 x8) (SC2 (kernelRun.sl.v440 (F := Ideal) c a8 h8 x6)
        (kernelRun.sl.v442 (F := Ideal) c a9 h9 x7) (kernelRun.sl.v459 (F := Ideal) c a11 h11 x9)) := rfl

include h6 h7 hv h9' in
theorem piece2 (r : Fin 256) (d : Fin 128) :
    (kernelRun.sl.v556 (F := Ideal) c a8 h8 a9 h9 a10 h10 a11 h11 x6 x7 x8 x9 : FVec Ideal S256x128 .bf16) (ix2 r d)
      = ((res q k v ⟨512 + r.val, by omega⟩ d : ℝ) : EReal) := by
  have e := row_first (w := 768) (by omega) (512 + r.val) (by omega) (fun j => zz q k ⟨512 + r.val, by omega⟩ j) (fun j => v j d)
    (fun j => SC2 x6 x7 (kernelRun.sl.v459 (F := Ideal) c a11 h11 x9) (ix2 r j))
    (fun j => by
      have hj := j.isLt
      rw [sc2_at, table2, h9', dist_tile r.val 2 j.val 1280 (by omega)]
      refine congrArg (fun e : EReal => e + Ideal.div (Ideal.log ((cnt (dist (512 + r.val) j.val) : ℝ) : EReal)) ((Real.log 2 : ℝ) : EReal)) ?_
      unfold zz
      rw [← sum_coe]
      exact Finset.sum_congr rfl fun x _ => by rw [h6, h7, EReal.coe_mul])
    (fun j hj => by omega)
  rw [stored2, load6, load7, load8, tile2_at]
  refine Eq.trans ?_ e
  refine congrArg (fun e : EReal => Ideal.div e _) (Finset.sum_congr rfl fun j _ => ?_)
  rw [hv]

theorem table3 (r : Fin 256) (j : Fin 1024) :
    (kernelRun.sl.v465 (F := Ideal) c a11 h11 x9 : FVec Ideal S256x1024 .f32) (ix2 r j) = x9 (ix2 r ⟨1024 + j.val, by omega⟩) := by
  delta kernelRun.sl.v465
  pointwise []
  rw [View.readAt_apply, Memref.IsWhole.read_unread]
  refine congrArg x9 (funext fun a => Fin.ext ?_)
  fin_cases a
  · exact (Nat.zero_add _).trans (Nat.one_mul _)
  · exact congrArg (1024 + ·) (Nat.one_mul _)

theorem stored3 : (kernelRun.sl.v564 (F := Ideal) c a8 h8 a9 h9 a10 h10 a11 h11 x6 x7 x8 x9 : FVec Ideal S256x128 .bf16)
    = TILE3 (kernelRun.sl.v531 (F := Ideal) c a10 h10 x8) (SC3 (kernelRun.sl.v440 (F := Ideal) c a8 h8 x6)
        (kernelRun.sl.v442 (F := Ideal) c a9 h9 x7) (kernelRun.sl.v465 (F := Ideal) c a11 h11 x9)) := rfl

include h6 h7 hv h9' in
theorem piece3 (r : Fin 256) (d : Fin 128) :
    (kernelRun.sl.v564 (F := Ideal) c a8 h8 a9 h9 a10 h10 a11 h11 x6 x7 x8 x9 : FVec Ideal S256x128 .bf16) (ix2 r d)
      = ((res q k v ⟨768 + r.val, by omega⟩ d : ℝ) : EReal) := by
  have e := row_first (w := 1024) (by omega) (768 + r.val) (by omega) (fun j => zz q k ⟨768 + r.val, by omega⟩ j) (fun j => v j d)
    (fun j => SC3 x6 x7 (kernelRun.sl.v465 (F := Ideal) c a11 h11 x9) (ix2 r j))
    (fun j => by
      have hj := j.isLt
      rw [sc3_at, table3, h9', dist_tile r.val 3 j.val 1024 (by omega)]
      refine congrArg (fun e : EReal => e + Ideal.div (Ideal.log ((cnt (dist (768 + r.val) j.val) : ℝ) : EReal)) ((Real.log 2 : ℝ) : EReal)) ?_
      unfold zz
      rw [← sum_coe]
      exact Finset.sum_congr rfl fun x _ => by rw [h6, h7, EReal.coe_mul])
    (fun j hj => by omega)
  rw [stored3, load6, load7, load8, tile3_at]
  refine Eq.trans ?_ e
  refine congrArg (fun e : EReal => Ideal.div e _) (Finset.sum_congr rfl fun j _ => ?_)
  rw [hv]

theorem table4 (r : Fin 256) (j : Fin 1280) :
    (kernelRun.sl.v471 (F := Ideal) c a11 h11 x9 : FVec Ideal S256x1280 .f32) (ix2 r j) = x9 (ix2 r ⟨768 + j.val, by omega⟩) := by
  delta kernelRun.sl.v471
  pointwise []
  rw [View.readAt_apply, Memref.IsWhole.read_unread]
  refine congrArg x9 (funext fun a => Fin.ext ?_)
  fin_cases a
  · exact (Nat.zero_add _).trans (Nat.one_mul _)
  · exact congrArg (768 + ·) (Nat.one_mul _)

theorem stored4 : (kernelRun.sl.v572 (F := Ideal) c a8 h8 a9 h9 a10 h10 a11 h11 x6 x7 x8 x9 : FVec Ideal S256x128 .bf16)
    = TILE4 (kernelRun.sl.v531 (F := Ideal) c a10 h10 x8) (SC4 (kernelRun.sl.v440 (F := Ideal) c a8 h8 x6)
        (kernelRun.sl.v442 (F := Ideal) c a9 h9 x7) (kernelRun.sl.v471 (F := Ideal) c a11 h11 x9)) := rfl

include h6 h7 hv h9' in
theorem piece4 (r : Fin 256) (d : Fin 128) :
    (kernelRun.sl.v572 (F := Ideal) c a8 h8 a9 h9 a10 h10 a11 h11 x6 x7 x8 x9 : FVec Ideal S256x128 .bf16) (ix2 r d)
      = ((res q k v ⟨1024 + r.val, by omega⟩ d : ℝ) : EReal) := by
  have e := row_first (w := 1280) (by omega) (1024 + r.val) (by omega) (fun j => zz q k ⟨1024 + r.val, by omega⟩ j) (fun j => v j d)
    (fun j => SC4 x6 x7 (kernelRun.sl.v471 (F := Ideal) c a11 h11 x9) (ix2 r j))
    (fun j => by
      have hj := j.isLt
      rw [sc4_at, table4, h9', dist_tile r.val 4 j.val 768 (by omega)]
      refine congrArg (fun e : EReal => e + Ideal.div (Ideal.log ((cnt (dist (1024 + r.val) j.val) : ℝ) : EReal)) ((Real.log 2 : ℝ) : EReal)) ?_
      unfold zz
      rw [← sum_coe]
      exact Finset.sum_congr rfl fun x _ => by rw [h6, h7, EReal.coe_mul])
    (fun j hj => by omega)
  rw [stored4, load6, load7, load8, tile4_at]
  refine Eq.trans ?_ e
  refine congrArg (fun e : EReal => Ideal.div e _) (Finset.sum_congr rfl fun j _ => ?_)
  rw [hv]

theorem table5 (r : Fin 256) (j : Fin 1536) :
    (kernelRun.sl.v477 (F := Ideal) c a11 h11 x9 : FVec Ideal S256x1536 .f32) (ix2 r j) = x9 (ix2 r ⟨512 + j.val, by omega⟩) := by
  delta kernelRun.sl.v477
  pointwise []
  rw [View.readAt_apply, Memref.IsWhole.read_unread]
  refine congrArg x9 (funext fun a => Fin.ext ?_)
  fin_cases a
  · exact (Nat.zero_add _).trans (Nat.one_mul _)
  · exact congrArg (512 + ·) (Nat.one_mul _)

theorem stored5 : (kernelRun.sl.v580 (F := Ideal) c a8 h8 a9 h9 a10 h10 a11 h11 x6 x7 x8 x9 : FVec Ideal S256x128 .bf16)
    = TILE5 (kernelRun.sl.v531 (F := Ideal) c a10 h10 x8) (SC5 (kernelRun.sl.v440 (F := Ideal) c a8 h8 x6)
        (kernelRun.sl.v442 (F := Ideal) c a9 h9 x7) (kernelRun.sl.v477 (F := Ideal) c a11 h11 x9)) := rfl

include h6 h7 hv h9' in
theorem piece5 (r : Fin 256) (d : Fin 128) :
    (kernelRun.sl.v580 (F := Ideal) c a8 h8 a9 h9 a10 h10 a11 h11 x6 x7 x8 x9 : FVec Ideal S256x128 .bf16) (ix2 r d)
      = ((res q k v ⟨1280 + r.val, by omega⟩ d : ℝ) : EReal) := by
  have e := row_first (w := 1536) (by omega) (1280 + r.val) (by omega) (fun j => zz q k ⟨1280 + r.val, by omega⟩ j) (fun j => v j d)
    (fun j => SC5 x6 x7 (kernelRun.sl.v477 (F := Ideal) c a11 h11 x9) (ix2 r j))
    (fun j => by
      have hj := j.isLt
      rw [sc5_at, table5, h9', dist_tile r.val 5 j.val 512 (by omega)]
      refine congrArg (fun e : EReal => e + Ideal.div (Ideal.log ((cnt (dist (1280 + r.val) j.val) : ℝ) : EReal)) ((Real.log 2 : ℝ) : EReal)) ?_
      unfold zz
      rw [← sum_coe]
      exact Finset.sum_congr rfl fun x _ => by rw [h6, h7, EReal.coe_mul])
    (fun j hj => by omega)
  rw [stored5, load6, load7, load8, tile5_at]
  refine Eq.trans ?_ e
  refine congrArg (fun e : EReal => Ideal.div e _) (Finset.sum_congr rfl fun j _ => ?_)
  rw [hv]

theorem table6 (r : Fin 256) (j : Fin 1792) :
    (kernelRun.sl.v483 (F := Ideal) c a11 h11 x9 : FVec Ideal S256x1792 .f32) (ix2 r j) = x9 (ix2 r ⟨256 + j.val, by omega⟩) := by
  delta kernelRun.sl.v483
  pointwise []
  rw [View.readAt_apply, Memref.IsWhole.read_unread]
  refine congrArg x9 (funext fun a => Fin.ext ?_)
  fin_cases a
  · exact (Nat.zero_add _).trans (Nat.one_mul _)
  · exact congrArg (256 + ·) (Nat.one_mul _)

theorem stored6 : (kernelRun.sl.v588 (F := Ideal) c a8 h8 a9 h9 a10 h10 a11 h11 x6 x7 x8 x9 : FVec Ideal S256x128 .bf16)
    = TILE6 (kernelRun.sl.v531 (F := Ideal) c a10 h10 x8) (SC6 (kernelRun.sl.v440 (F := Ideal) c a8 h8 x6)
        (kernelRun.sl.v442 (F := Ideal) c a9 h9 x7) (kernelRun.sl.v483 (F := Ideal) c a11 h11 x9)) := rfl

include h6 h7 hv h9' in
theorem piece6 (r : Fin 256) (d : Fin 128) :
    (kernelRun.sl.v588 (F := Ideal) c a8 h8 a9 h9 a10 h10 a11 h11 x6 x7 x8 x9 : FVec Ideal S256x128 .bf16) (ix2 r d)
      = ((res q k v ⟨1536 + r.val, by omega⟩ d : ℝ) : EReal) := by
  have e := row_first (w := 1792) (by omega) (1536 + r.val) (by omega) (fun j => zz q k ⟨1536 + r.val, by omega⟩ j) (fun j => v j d)
    (fun j => SC6 x6 x7 (kernelRun.sl.v483 (F := Ideal) c a11 h11 x9) (ix2 r j))
    (fun j => by
      have hj := j.isLt
      rw [sc6_at, table6, h9', dist_tile r.val 6 j.val 256 (by omega)]
      refine congrArg (fun e : EReal => e + Ideal.div (Ideal.log ((cnt (dist (1536 + r.val) j.val) : ℝ) : EReal)) ((Real.log 2 : ℝ) : EReal)) ?_
      unfold zz
      rw [← sum_coe]
      exact Finset.sum_congr rfl fun x _ => by rw [h6, h7, EReal.coe_mul])
    (fun j hj => by omega)
  rw [stored6, load6, load7, load8, tile6_at]
  refine Eq.trans ?_ e
  refine congrArg (fun e : EReal => Ideal.div e _) (Finset.sum_congr rfl fun j _ => ?_)
  rw [hv]

theorem table7 (r : Fin 256) (j : Fin 2048) :
    (kernelRun.sl.v488 (F := Ideal) c a11 h11 x9 : FVec Ideal S256x2048 .f32) (ix2 r j) = x9 (ix2 r ⟨0 + j.val, by omega⟩) := by
  delta kernelRun.sl.v488
  pointwise []
  rw [View.readAt_apply, Memref.IsWhole.read_unread]
  refine congrArg x9 (funext fun a => Fin.ext ?_)
  fin_cases a
  · exact (Nat.zero_add _).trans (Nat.one_mul _)
  · exact (Nat.zero_add _).trans (Nat.one_mul _)

theorem stored7 : (kernelRun.sl.v595 (F := Ideal) c a8 h8 a9 h9 a10 h10 a11 h11 x6 x7 x8 x9 : FVec Ideal S256x128 .bf16)
    = TILE7 (kernelRun.sl.v531 (F := Ideal) c a10 h10 x8) (SC7 (kernelRun.sl.v440 (F := Ideal) c a8 h8 x6)
        (kernelRun.sl.v442 (F := Ideal) c a9 h9 x7) (kernelRun.sl.v488 (F := Ideal) c a11 h11 x9)) := rfl

include h6 h7 hv h9' in
theorem piece7 (r : Fin 256) (d : Fin 128) :
    (kernelRun.sl.v595 (F := Ideal) c a8 h8 a9 h9 a10 h10 a11 h11 x6 x7 x8 x9 : FVec Ideal S256x128 .bf16) (ix2 r d)
      = ((res q k v ⟨1792 + r.val, by omega⟩ d : ℝ) : EReal) := by
  have e := row_first (w := 2048) (by omega) (1792 + r.val) (by omega) (fun j => zz q k ⟨1792 + r.val, by omega⟩ j) (fun j => v j d)
    (fun j => SC7 x6 x7 (kernelRun.sl.v488 (F := Ideal) c a11 h11 x9) (ix2 r j))
    (fun j => by
      have hj := j.isLt
      rw [sc7_at, table7, h9', dist_tile r.val 7 j.val 0 (by omega)]
      refine congrArg (fun e : EReal => e + Ideal.div (Ideal.log ((cnt (dist (1792 + r.val) j.val) : ℝ) : EReal)) ((Real.log 2 : ℝ) : EReal)) ?_
      unfold zz
      rw [← sum_coe]
      exact Finset.sum_congr rfl fun x _ => by rw [h6, h7, EReal.coe_mul])
    (fun j hj => by omega)
  rw [stored7, load6, load7, load8, tile7_at]
  refine Eq.trans ?_ e
  refine congrArg (fun e : EReal => Ideal.div e _) (Finset.sum_congr rfl fun j _ => ?_)
  rw [hv]

end stored

end Cert.KernelIdeal.Tiles

end
-- ==== Proof.MixHost.lean ====
/- What the host code hands the mixers kernel: the scaled and padded projections, and the table of pattern counts. -/
module

public import proofs.«01_k».proof.Proof.MixTiles

@[expose] public section

set_option maxRecDepth 65536

noncomputable section

open Idealize.ShloMosaic Idealize.ShloMosaic.TcCoe Idealize.SL.Sem

namespace Cert.KernelIdeal.Host

open Cert.KernelIdeal Cert.KernelIdeal.Gen
open Cert.SoftMix

/-! ## The host's arrays -/

/-- Each column's block of 1024. -/
def BLK : IVec S1x9216 32 :=
  Host.shrsi (iotaInDim S1x9216 32 1) (broadcastInDim S1x9216 ![] bcast_S_S1x9216 (constantI S_ 32 10#32))

/-- One in the columns that are scaled. -/
def PLUS : FVec Ideal S1x9216 .f32 :=
  uitofp .f32 (ori (cmpi .eq BLK (broadcastInDim S1x9216 ![] bcast_S_S1x9216 (constantI S_ 32 0#32)))
    (cmpi .eq BLK (broadcastInDim S1x9216 ![] bcast_S_S1x9216 (constantI S_ 32 6#32))))

/-- One in the columns that are scaled and negated. -/
def MINUS : FVec Ideal S1x9216 .f32 :=
  uitofp .f32 (cmpi .eq BLK (broadcastInDim S1x9216 ![] bcast_S_S1x9216 (constantI S_ 32 3#32)))

/-- The scale. -/
def SCL : FVec Ideal S_ .f32 :=
  Host.divf (Host.divf (constant S_ .f32 0x3F800000#32) (Host.sqrt (constant S_ .f32 0x43000000#32)))
    (Host.log (constant S_ .f32 0x40000000#32))

/-- Each column's factor. -/
def FAC : FVec Ideal S1x9216 .f32 :=
  addf (subf (mulf PLUS (broadcastInDim S1x9216 ![] bcast_S_S1x9216 SCL)) (mulf MINUS (broadcastInDim S1x9216 ![] bcast_S_S1x9216 SCL)))
    (subf (subf (broadcastInDim S1x9216 ![] bcast_S_S1x9216 (constant (F := Ideal) S_ .f32 0x3F800000#32)) PLUS) MINUS)

/-- The projections as the kernel reads them. -/
def PADDED (A : FVec Ideal S8192x9216 .f32) : FVec Ideal S8192x9728 .bf16 :=
  pad S8192x9728 ![0, 0] ![0, 512] ![0, 0]
    (truncf .bf16 (mulf A (broadcastInDim S8192x9216 ![0, 1] bcast_S1x9216_S8192x9216_0_1 FAC)) bitsLt_bf16_f32 : FVec Ideal S8192x9216 .bf16)
    (sitofp .bf16 (constantI S_ 32 0#32) : FVec Ideal S_ .bf16) pads_S8192x9216_S8192x9728_000_05120 h_S_

/-- The distances the table is of. -/
def DIST : IVec S256x2048 32 :=
  addi (subi (iotaInDim S256x2048 32 0) (iotaInDim S256x2048 32 1)) (broadcastInDim S256x2048 ![] bcast_S_S256x2048 (constantI S_ 32 1792#32))

/-- Whether a distance is in a pattern. -/
def IN (k w : BitVec 32) : IVec S256x2048 1 :=
  andi (andi (cmpi .sge DIST (broadcastInDim S256x2048 ![] bcast_S_S256x2048 (constantI S_ 32 0#32)))
    (cmpi .eq (andi DIST (broadcastInDim S256x2048 ![] bcast_S_S256x2048 (constantI S_ 32 k)))
      (broadcastInDim S256x2048 ![] bcast_S_S256x2048 (constantI S_ 32 0#32))))
    (cmpi .sle DIST (broadcastInDim S256x2048 ![] bcast_S_S256x2048 (constantI S_ 32 w)))

/-- The number of patterns each distance is in. -/
def CNT : FVec Ideal S256x2048 .f32 :=
  addf (addf (addf (broadcastInDim S256x2048 ![] bcast_S_S256x2048 (constant (F := Ideal) S_ .f32 0x00000000#32))
    (uitofp .f32 (IN 0#32 128#32))) (uitofp .f32 (IN 3#32 512#32))) (uitofp .f32 (IN 15#32 2048#32))

/-- The table. -/
def TABLE : FVec Ideal S256x2048 .f32 :=
  Host.divf (Host.log CNT) (broadcastInDim S256x2048 ![] bcast_S_S256x2048 (Host.log (constant (F := Ideal) S_ .f32 0x40000000#32)))

variable (m : (ℓ : Loc nD τ sig) → Buf (Elt Ideal) ℓ)

theorem entry_qkv (c : Dev nD) : V m c main_v28 = PADDED (m ((c : Thread nD τ).loc main_arg0)) := by
  have h : V m c main_v28 = PADDED (m ((c : Thread nD τ).loc main_arg0)) := by
    entry_read
    first | rfl | done
  exact h

set_option maxHeartbeats 4000000 in
theorem entry_table (c : Dev nD) : V m c main_v74 = TABLE := by
  have h : V m c main_v74 = TABLE := by
    entry_read
    first | rfl | done
  exact h

/-! ## At one entry -/

theorem blk_eq : ∀ k : Fin 9216, IntOp.shrsi ArithUnit.host (BitVec.ofNat 32 k.val) 10#32 = BitVec.ofNat 32 (k.val / 1024) := by
  decide +kernel

theorem lit_2 : Ideal.ofBits .f32 0x40000000#32 = ((2 : ℝ) : EReal) := by
  simp [Ideal.ofBits, Ideal.ieee, -EReal.coe_mul]; norm_num

theorem log_2 : Ideal.log (Ideal.ofBits .f32 0x40000000#32) = ((Real.log 2 : ℝ) : EReal) := by
  rw [lit_2, log_coe (by norm_num)]

/-- The scale as a real number. -/
def scl : ℝ := 1 / Real.sqrt 128 / Real.log 2

theorem plus_at (k : Fin 9216) : PLUS (ix2 0 k) = (((IntOp.ori (IntOp.cmpi .eq (BitVec.ofNat 32 (k.val / 1024)) 0#32)
    (IntOp.cmpi .eq (BitVec.ofNat 32 (k.val / 1024)) 6#32)).toNat : ℝ) : EReal) := by
  rw [← blk_eq]
  pointwise [PLUS, BLK]
  rfl

theorem minus_at (k : Fin 9216) : MINUS (ix2 0 k) = (((IntOp.cmpi .eq (BitVec.ofNat 32 (k.val / 1024)) 3#32).toNat : ℝ) : EReal) := by
  rw [← blk_eq]
  pointwise [MINUS, BLK]
  rfl

theorem scl_at (i : S_.Idx) : SCL i = ((scl : ℝ) : EReal) := by
  have e : SCL i = Ideal.div (Ideal.div 1 (Ideal.sqrt (Ideal.ofBits .f32 0x43000000#32))) (Ideal.log (Ideal.ofBits .f32 0x40000000#32)) := by
    pointwise [SCL]
  rw [e, Cert.ReferenceIdeal.Term.scale_val, log_2, div_coe (Real.log_pos (by norm_num))]
  rfl

theorem fac_at (k : Fin 9216) (p q : ℝ) (hp : PLUS (ix2 0 k) = (p : EReal)) (hq : MINUS (ix2 0 k) = (q : EReal)) :
    FAC (ix2 0 k) = ((p * scl - q * scl + (1 - p - q) : ℝ) : EReal) := by
  have e : FAC (ix2 0 k) = PLUS (ix2 0 k) * SCL ix0 - MINUS (ix2 0 k) * SCL ix0 + (1 - PLUS (ix2 0 k) - MINUS (ix2 0 k)) := by
    pointwise [FAC]
  rw [e, hp, hq, scl_at]
  norm_cast

theorem fac_6 (k : Fin 9216) (h : k.val / 1024 = 6) : FAC (ix2 0 k) = ((scl : ℝ) : EReal) := by
  rw [fac_at k 1 0 (by rw [plus_at, h]; exact congrArg Real.toEReal Nat.cast_one) (by rw [minus_at, h]; exact congrArg Real.toEReal Nat.cast_zero)]
  exact congrArg Real.toEReal (by ring)

theorem fac_7 (k : Fin 9216) (h : k.val / 1024 = 7) : FAC (ix2 0 k) = 1 := by
  rw [fac_at k 0 0 (by rw [plus_at, h]; exact congrArg Real.toEReal Nat.cast_zero) (by rw [minus_at, h]; exact congrArg Real.toEReal Nat.cast_zero)]
  exact congrArg Real.toEReal (by ring)

theorem fac_8 (k : Fin 9216) (h : k.val / 1024 = 8) : FAC (ix2 0 k) = 1 := by
  rw [fac_at k 0 0 (by rw [plus_at, h]; exact congrArg Real.toEReal Nat.cast_zero) (by rw [minus_at, h]; exact congrArg Real.toEReal Nat.cast_zero)]
  exact congrArg Real.toEReal (by ring)

theorem padded_at (A : FVec Ideal S8192x9216 .f32) (r : Fin 8192) (k : Fin 9728) (hk : k.val < 9216) :
    PADDED A (ix2 r k) = A (ix2 r ⟨k.val, hk⟩) * FAC (ix2 0 ⟨k.val, hk⟩) := by
  pointwise [PADDED]
  exact dif_pos hk

theorem cnt_at (r : Fin 256) (j : Fin 2048) : CNT (ix2 r j)
    = ((cnt (IntOp.addi (IntOp.subi (BitVec.ofNat 32 r.val) (BitVec.ofNat 32 j.val)) 1792#32) : ℝ) : EReal) := by
  pointwise [CNT, IN, DIST]
  unfold cnt
  rw [EReal.coe_add, EReal.coe_add]
  rfl

theorem table_at (r : Fin 256) (j : Fin 2048) : TABLE (ix2 r j)
    = Ideal.div (Ideal.log ((cnt (IntOp.addi (IntOp.subi (BitVec.ofNat 32 r.val) (BitVec.ofNat 32 j.val)) 1792#32) : ℝ) : EReal))
        ((Real.log 2 : ℝ) : EReal) := by
  rw [← log_2, ← cnt_at]
  pointwise [TABLE]

/-! ## The blocks of a grid point -/

theorem places : ∀ t : Fin cfg0.N, win0_6.index t = ![t.val / 8, 48 + t.val % 8]
    ∧ win0_7.index t = ![t.val / 8, 56 + t.val % 8]
    ∧ win0_8.index t = ![t.val / 8, 64 + t.val % 8]
    ∧ win0_9.index t = ![0, 0]
    ∧ win0_12.index t = ![t.val / 8, t.val % 8] :=
  (by decide +kernel : ∀ t : Fin grid0.N, _)

/-- The kernel's reals: the argument's entries. -/
abbrev Reals (X : Fin 8192 → Fin 9216 → ℝ) (c : Dev nD) : Prop :=
  ∀ r k, (show FVec Ideal S8192x9216 .f32 from m ((c : Thread nD τ).loc main_arg0)) (ix2 r k) = ((X r k : ℝ) : EReal)

variable (X : Fin 8192 → Fin 9216 → ℝ)

theorem lt32 (t : Fin cfg0.N) : t.val < 32 := t.isLt

theorem q_at (c : Dev nD) (hX : Reals m X c) (t : Fin cfg0.N) (b : Fin 4) (h : Fin 8) (hb : t.val / 8 = b.val) (hh : t.val % 8 = h.val)
    (a : Fin 2048) (x : Fin 128) : (iblk m c 6 t : FVec Ideal S2048x128 .bf16) (ix2 a x)
      = ((X ⟨b.val * 2048 + a.val, by omega⟩ ⟨6144 + (h.val * 128 + x.val), by omega⟩ * scl : ℝ) : EReal) := by
  have e : (iblk m c 6 t : FVec Ideal S2048x128 .bf16) (ix2 a x)
      = (V m c main_v28 : FVec Ideal S8192x9728 .bf16) (ix2 ⟨b.val * 2048 + a.val, by omega⟩ ⟨6144 + (h.val * 128 + x.val), by omega⟩) := by
    blk_point [iblk, places t]
  rw [e, entry_qkv, padded_at _ _ _ (by show 6144 + (h.val * 128 + x.val) < 9216; omega), fac_6 _ (by show (6144 + (h.val * 128 + x.val)) / 1024 = 6; omega)]
  rw [EReal.coe_mul]
  exact congrArg (fun z : EReal => z * ((scl : ℝ) : EReal)) (hX _ _)

theorem k_at (c : Dev nD) (hX : Reals m X c) (t : Fin cfg0.N) (b : Fin 4) (h : Fin 8) (hb : t.val / 8 = b.val) (hh : t.val % 8 = h.val)
    (a : Fin 2048) (x : Fin 128) : (iblk m c 7 t : FVec Ideal S2048x128 .bf16) (ix2 a x)
      = ((X ⟨b.val * 2048 + a.val, by omega⟩ ⟨7168 + (h.val * 128 + x.val), by omega⟩ : ℝ) : EReal) := by
  have e : (iblk m c 7 t : FVec Ideal S2048x128 .bf16) (ix2 a x)
      = (V m c main_v28 : FVec Ideal S8192x9728 .bf16) (ix2 ⟨b.val * 2048 + a.val, by omega⟩ ⟨7168 + (h.val * 128 + x.val), by omega⟩) := by
    blk_point [iblk, places t]
  rw [e, entry_qkv, padded_at _ _ _ (by show 7168 + (h.val * 128 + x.val) < 9216; omega), fac_7 _ (by show (7168 + (h.val * 128 + x.val)) / 1024 = 7; omega), mul_one]
  exact hX _ _

theorem v_at (c : Dev nD) (hX : Reals m X c) (t : Fin cfg0.N) (b : Fin 4) (h : Fin 8) (hb : t.val / 8 = b.val) (hh : t.val % 8 = h.val)
    (a : Fin 2048) (x : Fin 128) : (iblk m c 8 t : FVec Ideal S2048x128 .bf16) (ix2 a x)
      = ((Cert.Dilated.val X b h a x : ℝ) : EReal) := by
  have e : (iblk m c 8 t : FVec Ideal S2048x128 .bf16) (ix2 a x)
      = (V m c main_v28 : FVec Ideal S8192x9728 .bf16) (ix2 ⟨b.val * 2048 + a.val, by omega⟩ ⟨8192 + (h.val * 128 + x.val), by omega⟩) := by
    blk_point [iblk, places t]
  rw [e, entry_qkv, padded_at _ _ _ (by show 8192 + (h.val * 128 + x.val) < 9216; omega), fac_8 _ (by show (8192 + (h.val * 128 + x.val)) / 1024 = 8; omega), mul_one]
  exact hX _ _

theorem tbl_at (c : Dev nD) (t : Fin cfg0.N) (r : Fin 256) (j : Fin 2048) : (iblk m c 9 t : FVec Ideal S256x2048 .f32) (ix2 r j)
    = Ideal.div (Ideal.log ((cnt (IntOp.addi (IntOp.subi (BitVec.ofNat 32 r.val) (BitVec.ofNat 32 j.val)) 1792#32) : ℝ) : EReal))
        ((Real.log 2 : ℝ) : EReal) := by
  have e : (iblk m c 9 t : FVec Ideal S256x2048 .f32) (ix2 r j) = (V m c main_v74 : FVec Ideal S256x2048 .f32) (ix2 r j) := by
    blk_point [iblk, places t]
  rw [e, entry_table, table_at]

end Cert.KernelIdeal.Host

end
-- ==== Proof.Mixers.lean ====
/- The fused mixers kernel's dilated attention: what the kernel leaves in its third result is what the reference computes,
   from any real arguments. -/
module

public import proofs.«01_k».proof.Defs
public import proofs.«01_k».proof.Proof.PreFacts
public import proofs.«01_k».proof.Proof.MixHost

@[expose] public section

set_option maxRecDepth 65536

noncomputable section

open Idealize.ShloMosaic Idealize.ShloMosaic.TcCoe Idealize.SL.Sem

namespace Cert.KernelIdeal.Out

open Cert.KernelIdeal Cert.KernelIdeal.Gen Cert.KernelIdeal.Hand Cert.KernelIdeal.Host
open Cert.SoftMix Idealize.ShloMosaic.StableHlo

variable (X : Fin 8192 → Fin 9216 → ℝ)

/-! ## The two quotients are one -/

/-- The scaled query of a sequence's head, and its key. -/
abbrev qq (b : Fin 4) (h : Fin 8) (a : Fin 2048) (x : Fin 128) : ℝ :=
  X ⟨b.val * 2048 + a.val, by omega⟩ ⟨6144 + (h.val * 128 + x.val), by omega⟩ * scl
abbrev kk (b : Fin 4) (h : Fin 8) (a : Fin 2048) (x : Fin 128) : ℝ :=
  X ⟨b.val * 2048 + a.val, by omega⟩ ⟨7168 + (h.val * 128 + x.val), by omega⟩

theorem exp_eq (b : Fin 4) (h : Fin 8) (a j : Fin 2048) :
    (2 : ℝ) ^ Tiles.zz (qq X b h) (kk X b h) a j = Real.exp (Cert.Dilated.logit X b h a j) := by
  have hl : Real.log 2 ≠ 0 := (Real.log_pos (by norm_num)).ne'
  rw [Real.rpow_def_of_pos (by norm_num)]
  refine congrArg Real.exp ?_
  unfold Tiles.zz Cert.Dilated.logit
  rw [Finset.mul_sum, Finset.sum_mul]
  refine Finset.sum_congr rfl fun x _ => ?_
  unfold qq kk scl
  field_simp

theorem res_eq (b : Fin 4) (h : Fin 8) (a : Fin 2048) (d : Fin 128) :
    Tiles.res (qq X b h) (kk X b h) (Cert.Dilated.val X b h) a d = Cert.Dilated.out X b h a d := by
  unfold Tiles.res Cert.Dilated.out
  simp only [exp_eq]

/-! ## A grid point's block -/

variable (m : (ℓ : Loc nD τ sig) → Buf (Elt Ideal) ℓ)

theorem block_at (c : Dev nD) (hX : Reals m X c) (t : Fin cfg0.N) (b : Fin 4) (h : Fin 8) (hb : t.val / 8 = b.val) (hh : t.val % 8 = h.val)
    (a : Fin 2048) (d : Fin 128) :
    View.canon (outD m c t) (ix2 a d) = ((Cert.Dilated.out X b h a d : ℝ) : EReal) := by
  rw [← res_eq]
  have e : outD m c t = kernelRun.sl.H14_8 (F := Ideal) c (ms6 t) (hs6 t) (ms7 t) (hs7 t) (ms8 t) (hs8 t) (ms9 t) (hs9 t) (iblk m c 6 t) (iblk m c 7 t) (iblk m c 8 t) (iblk m c 9 t) := rfl
  rw [e]
  unfold kernelRun.sl.H14_8
  canon_tiles x hx
  all_goals idx_vars x
  · obtain rfl : d = x1 := Fin.ext hx1
    have ha : a = ⟨1792 + x0.val, by omega⟩ := Fin.ext hx0
    rw [ha]
    exact Tiles.piece7 c (ms6 t) (hs6 t) (ms7 t) (hs7 t) (ms8 t) (hs8 t) (ms9 t) (hs9 t) (iblk m c 6 t) (iblk m c 7 t) (iblk m c 8 t) (iblk m c 9 t)
      (qq X b h) (kk X b h) (Cert.Dilated.val X b h)
      (q_at m X c hX t b h hb hh) (k_at m X c hX t b h hb hh) (v_at m X c hX t b h hb hh) (tbl_at m c t) x0 d
  · obtain rfl : d = x1 := Fin.ext hx1
    have ha : a = ⟨1536 + x0.val, by omega⟩ := Fin.ext hx0
    rw [ha]
    exact Tiles.piece6 c (ms6 t) (hs6 t) (ms7 t) (hs7 t) (ms8 t) (hs8 t) (ms9 t) (hs9 t) (iblk m c 6 t) (iblk m c 7 t) (iblk m c 8 t) (iblk m c 9 t)
      (qq X b h) (kk X b h) (Cert.Dilated.val X b h)
      (q_at m X c hX t b h hb hh) (k_at m X c hX t b h hb hh) (v_at m X c hX t b h hb hh) (tbl_at m c t) x0 d
  · obtain rfl : d = x1 := Fin.ext hx1
    have ha : a = ⟨1280 + x0.val, by omega⟩ := Fin.ext hx0
    rw [ha]
    exact Tiles.piece5 c (ms6 t) (hs6 t) (ms7 t) (hs7 t) (ms8 t) (hs8 t) (ms9 t) (hs9 t) (iblk m c 6 t) (iblk m c 7 t) (iblk m c 8 t) (iblk m c 9 t)
      (qq X b h) (kk X b h) (Cert.Dilated.val X b h)
      (q_at m X c hX t b h hb hh) (k_at m X c hX t b h hb hh) (v_at m X c hX t b h hb hh) (tbl_at m c t) x0 d
  · obtain rfl : d = x1 := Fin.ext hx1
    have ha : a = ⟨1024 + x0.val, by omega⟩ := Fin.ext hx0
    rw [ha]
    exact Tiles.piece4 c (ms6 t) (hs6 t) (ms7 t) (hs7 t) (ms8 t) (hs8 t) (ms9 t) (hs9 t) (iblk m c 6 t) (iblk m c 7 t) (iblk m c 8 t) (iblk m c 9 t)
      (qq X b h) (kk X b h) (Cert.Dilated.val X b h)
      (q_at m X c hX t b h hb hh) (k_at m X c hX t b h hb hh) (v_at m X c hX t b h hb hh) (tbl_at m c t) x0 d
  · obtain rfl : d = x1 := Fin.ext hx1
    have ha : a = ⟨768 + x0.val, by omega⟩ := Fin.ext hx0
    rw [ha]
    exact Tiles.piece3 c (ms6 t) (hs6 t) (ms7 t) (hs7 t) (ms8 t) (hs8 t) (ms9 t) (hs9 t) (iblk m c 6 t) (iblk m c 7 t) (iblk m c 8 t) (iblk m c 9 t)
      (qq X b h) (kk X b h) (Cert.Dilated.val X b h)
      (q_at m X c hX t b h hb hh) (k_at m X c hX t b h hb hh) (v_at m X c hX t b h hb hh) (tbl_at m c t) x0 d
  · obtain rfl : d = x1 := Fin.ext hx1
    have ha : a = ⟨512 + x0.val, by omega⟩ := Fin.ext hx0
    rw [ha]
    exact Tiles.piece2 c (ms6 t) (hs6 t) (ms7 t) (hs7 t) (ms8 t) (hs8 t) (ms9 t) (hs9 t) (iblk m c 6 t) (iblk m c 7 t) (iblk m c 8 t) (iblk m c 9 t)
      (qq X b h) (kk X b h) (Cert.Dilated.val X b h)
      (q_at m X c hX t b h hb hh) (k_at m X c hX t b h hb hh) (v_at m X c hX t b h hb hh) (tbl_at m c t) x0 d
  · obtain rfl : d = x1 := Fin.ext hx1
    have ha : a = ⟨256 + x0.val, by omega⟩ := Fin.ext hx0
    rw [ha]
    exact Tiles.piece1 c (ms6 t) (hs6 t) (ms7 t) (hs7 t) (ms8 t) (hs8 t) (ms9 t) (hs9 t) (iblk m c 6 t) (iblk m c 7 t) (iblk m c 8 t) (iblk m c 9 t)
      (qq X b h) (kk X b h) (Cert.Dilated.val X b h)
      (q_at m X c hX t b h hb hh) (k_at m X c hX t b h hb hh) (v_at m X c hX t b h hb hh) (tbl_at m c t) x0 d
  · obtain rfl : d = x1 := Fin.ext hx1
    have ha : a = ⟨0 + x0.val, by omega⟩ := Fin.ext (hx0.trans (Nat.zero_add _).symm)
    rw [ha]
    exact Tiles.piece0 c (ms6 t) (hs6 t) (ms7 t) (hs7 t) (ms8 t) (hs8 t) (ms9 t) (hs9 t) (iblk m c 6 t) (iblk m c 7 t) (iblk m c 8 t) (iblk m c 9 t)
      (qq X b h) (kk X b h) (Cert.Dilated.val X b h)
      (q_at m X c hX t b h hb hh) (k_at m X c hX t b h hb hh) (v_at m X c hX t b h hb hh) (tbl_at m c t) x0 d

/-! ## The whole result -/

theorem emb_12 (t : Fin cfg0.N) (y : S2048x128.Idx) : ((cfg0.win 12).blk t).view.emb y
    = (ix2 ⟨2048 * (t.val / 8) + (y 0).val, by have h1 : t.val < 32 := t.isLt; have h2 : (y 0).val < 2048 := (y 0).isLt; omega⟩
        ⟨128 * (t.val % 8) + (y 1).val, by have h2 : (y 1).val < 128 := (y 1).isLt; omega⟩ : S8192x1024.Idx) := by
  blk_ext [places t]

/-- An array that holds the attention's outputs is what the third result ends as. -/
theorem final (c : Dev nD) (hX : Reals m X c) (G : FVec Ideal S8192x1024 .bf16)
    (hG : ∀ (b : Fin 4) (h : Fin 8) (q : Fin 2048) (d : Fin 128) (r : Fin 8192) (k : Fin 1024),
      r.val = b.val * 2048 + q.val → k.val = h.val * 128 + d.val → G (ix2 r k) = ((Cert.Dilated.out X b h q d : ℝ) : EReal)) :
    (dats m 0 c).arrAt 12 cfg0.N = G := by
  refine (dats m 0 c).arrAt_eq_of_covers 12 _ (by decide +kernel) fun t hf y => ?_
  have ht : t.val < 32 := t.isLt
  rw [emb_12 t y]
  blk_simp
  rw [after_12]
  idx_vars y
  rw [block_at X m c hX t ⟨t.val / 8, by omega⟩ ⟨t.val % 8, by omega⟩ rfl rfl]
  exact (hG ⟨t.val / 8, by omega⟩ ⟨t.val % 8, by omega⟩ _ _ _ _ (congrArg (· + _) (Nat.mul_comm _ _)) (congrArg (· + _) (Nat.mul_comm _ _))).symm

theorem lit_inf : Ideal.ofBits .f32 0x7F800000#32 = (⊤ : EReal) := by
  simp [Ideal.ofBits, Ideal.ieee]

/-- The precondition makes every argument a real number. -/
theorem reals_of (hm : Cert.Pre_KernelIdeal_finite m) (c : Dev nD) :
    Reals m (fun r k => ((show FVec Ideal S8192x9216 .f32 from m ((c : Thread nD τ).loc main_arg0)) (ix2 r k) : EReal).toReal) c := by
  intro r k
  have e := congrFun (hm c) (ix2 r k)
  have e2 : ∀ A : FVec Ideal S8192x9216 .f32, Cert.Pre_finite.fn (F := Ideal) A (ix2 r k) = 1#1 → A (ix2 r k) < (⊤ : EReal) ∧ (⊥ : EReal) < A (ix2 r k) := by
    intro A hA
    have e3 : Cert.Pre_finite.fn (F := Ideal) A (ix2 r k)
        = IntOp.andi (BitVec.ofBool (decide (A (ix2 r k) < (⊤ : EReal)))) (BitVec.ofBool (decide ((⊥ : EReal) < A (ix2 r k)))) := by
      rw [← lit_inf, ← Cert.ReferenceIdeal.Term.lit_neg_inf]
      pointwise [Cert.Pre_finite.fn]
    rw [e3] at hA
    generalize A (ix2 r k) = z at hA ⊢
    by_cases h1 : z < (⊤ : EReal)
    · by_cases h2 : (⊥ : EReal) < z
      · exact ⟨h1, h2⟩
      · exact absurd hA (by rw [decide_eq_false h2, decide_eq_true h1]; decide)
    · exact absurd hA (by rw [decide_eq_false h1]; generalize decide ((⊥ : EReal) < z) = u; revert u; decide)
  obtain ⟨h1, h2⟩ := e2 _ e
  exact (EReal.coe_toReal h1.ne h2.ne').symm

/-- Both programs run, and from equal real arguments their results are equal. -/
theorem algebraic : Cert.algebraic_KernelIdeal_ReferenceIdeal_pre_finite := by
  intro m ρ m' ρ' hm hagree
  refine ⟨fun c => Cert.ReferenceIdeal.Term.OUT (launchContents m' c), ?_, ?_⟩
  · refine (θ_run Cert.KernelIdeal.defs _ _).mono (fun r h c => ⟨?_, ?_⟩) (run_main (F := Ideal) m ρ)
    · have e := ((dats (F := Ideal) m 0 c).toRForget_arrAt_iff (rfl : forgets0 12 = false) _ _).mp ((h.1 c).1 12)
      refine e.trans (final _ m c (reals_of m hm c) _ fun b h q d r k hr hk => ?_)
      refine Cert.ReferenceIdeal.Term.out_at _ _ (fun r k => ?_) b h q d r k hr hk
      refine Eq.trans ?_ (reals_of m hm c r k)
      exact congrFun (hagree c) (ix2 r k)
    · exact ((h.1 c).2 main_arg0 (Pipeline.mem_restRefs_of main_arg0 (by decide) (by decide))).trans (V_main_arg0 m c)
  · refine (θ_run Cert.ReferenceIdeal.defs _ _).mono (fun r h c => ⟨?_, (h c).2⟩)
      (Cert.ReferenceIdeal.Value.run (F := Ideal) m' ρ')
    refine (h c).1.trans ?_
    unfold Cert.ReferenceIdeal.Term.OUT Cert.ReferenceIdeal.Term.MIX Cert.ReferenceIdeal.Term.L1 Cert.ReferenceIdeal.Term.L2
      Cert.ReferenceIdeal.Term.L3 Cert.ReferenceIdeal.Term.S1 Cert.ReferenceIdeal.Term.S2 Cert.ReferenceIdeal.Term.S3
      Cert.ReferenceIdeal.Term.E1 Cert.ReferenceIdeal.Term.E2 Cert.ReferenceIdeal.Term.E3 Cert.ReferenceIdeal.Term.DEN Cert.ReferenceIdeal.Term.VAL
    rfl

end Cert.KernelIdeal.Out

end
-- ==== Proof.Swiglu.lean ====
/- The gate and up projections of the feed-forward block, and the rounded copy of the down projection. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Reference2Ideal.Term

open Cert.Reference2Ideal Cert.Reference2Ideal.Gen

/-- The first layer's slice of a stacked weight. -/
def layer (w : FVec Ideal S2x4096x11008 .f32) : FVec Ideal S4096x11008 .f32 :=
  shapeCast _ (extractStridedSlice S1x4096x11008 ![0, 0, 0] w slices_S2x4096x11008_S1x4096x11008_0_0_0) shapeCasts_S1x4096x11008_S4096x11008

/-- The reference's first result: the gated product. -/
def ACT (h : FVec Ideal S8192x4096 .f32) (wg wu : FVec Ideal S2x4096x11008 .f32) : FVec Ideal S8192x11008 .bf16 :=
  truncf .bf16 (mulf (Host.divf (Host.dotGeneral dot_S8192x4096_S4096x11008_S8192x11008_1_0_0_1_n_n none h (layer wg))
    (addf (broadcastInDim S8192x11008 ![] bcast_S_S8192x11008 (constant S_ .f32 0x3F800000#32))
      (Host.exp (Host.negf (Host.dotGeneral dot_S8192x4096_S4096x11008_S8192x11008_1_0_0_1_n_n none h (layer wg))))))
    (Host.dotGeneral dot_S8192x4096_S4096x11008_S8192x11008_1_0_0_1_n_n none h (layer wu))) bitsLt_bf16_f32

/-- The reference's second result: the first layer's down projection. -/
def WD (w : FVec Ideal S2x11008x4096 .f32) : FVec Ideal S11008x4096 .bf16 :=
  truncf .bf16 (shapeCast _ (extractStridedSlice S1x11008x4096 ![0, 0, 0] w slices_S2x11008x4096_S1x11008x4096_0_0_0) shapeCasts_S1x11008x4096_S11008x4096) bitsLt_bf16_f32

end Cert.Reference2Ideal.Term

namespace Cert.Kernel2Ideal.Out

open Cert.Kernel2Ideal Cert.Kernel2Ideal.Gen Cert.Reference2Ideal.Term

variable (m : (ℓ : Loc nD τ sig) → Buf (Elt Ideal) ℓ)

theorem places : ∀ t : Fin cfg0.N, win0_0.index t = ![t.val / 43, 0]
    ∧ win0_1.index t = ![0, 0, t.val % 43]
    ∧ win0_2.index t = ![0, 0, t.val % 43]
    ∧ win0_3.index t = ![0, (t.val / 43) * 43 + (t.val % 43), 0]
    ∧ win0_4.index t = ![t.val / 43, t.val % 43]
    ∧ win0_5.index t = ![(t.val / 43) * 43 + (t.val % 43), 0] :=
  (by decide +kernel : ∀ t : Fin grid0.N, _)

theorem point_act (c : Dev nD) (t : Fin cfg0.N) (y) :
    k0_pay1 (iblk m c 0 t) (iblk m c 1 t) (iblk m c 2 t) y = ACT (m ((c : Thread nD τ).loc main_arg0)) (m ((c : Thread nD τ).loc main_arg1)) (m ((c : Thread nD τ).loc main_arg2)) (((cfg0.win 4).blk t).view.emb y) := by
  pointwise [k0_pay1, ACT, layer]
  simp only [sub_eq_add_neg, zero_add]
  blk_point [iblk, V, places t]

theorem final_act (c : Dev nD) : (dats m 0 c).arrAt 4 cfg0.N = ACT (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point_act m c t y

theorem point_wd (c : Dev nD) (t : Fin cfg0.N) (y) :
    k0_pay2 (iblk m c 3 t) y = WD (m ((c : Thread nD τ).loc main_arg3)) (((cfg0.win 5).blk t).view.emb y) := by
  pointwise [k0_pay2, WD]
  blk_point [iblk, V, places t]

theorem final_wd (c : Dev nD) : (dats m 0 c).arrAt 5 cfg0.N = WD (m ((c : Thread nD τ).loc main_arg3)) := by
  refine (dats m 0 c).arrAt_eq_of_covers 5 _ (by decide +kernel) fun t hf y => ?_
  blk_simp; rw [after0_5]; frame_out
  exact point_wd m c t y

/-- Both programs run, and from equal arguments their results are equal. -/
theorem algebraic : Cert.algebraic_Kernel2Ideal_Reference2Ideal := by
  intro m ρ m' ρ' _ hagree
  refine ⟨fun c => ACT (m ((c : Thread nD τ).loc main_arg0)) (m ((c : Thread nD τ).loc main_arg1)) (m ((c : Thread nD τ).loc main_arg2)), fun c => WD (m ((c : Thread nD τ).loc main_arg3)), ?_, ?_⟩
  · exact (θ_run Cert.Kernel2Ideal.defs _ _).mono (fun r h c => ⟨(h c).1.trans (final_act m c), (h c).2.1.trans (final_wd m c), (h c).2.2⟩)
      (Cert.Kernel2Ideal.Value.run_blocks (F := Ideal) m ρ)
  · refine (θ_run Cert.Reference2Ideal.defs _ _).mono (fun r h c => ⟨?_, ?_, (h c).2.2⟩)
      (Cert.Reference2Ideal.Value.run (F := Ideal) m' ρ')
    · obtain ⟨h0, h1, h2, h3⟩ := hagree c
      refine (h c).1.trans ?_
      show ACT (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
        = ACT (m ((c : Thread nD τ).loc main_arg0)) (m ((c : Thread nD τ).loc main_arg1)) (m ((c : Thread nD τ).loc main_arg2))
      rw [h0, h1, h2]
    · obtain ⟨h0, h1, h2, h3⟩ := hagree c
      refine (h c).2.1.trans ?_
      show WD (m' ((c.tc : Thread Cert.Reference2Ideal.nD Cert.Reference2Ideal.τ).loc Cert.Reference2Ideal.main_arg3))
        = WD (m ((c : Thread nD τ).loc main_arg3))
      rw [h3]

end Cert.Kernel2Ideal.Out

end
-- ==== Proof.Down.lean ====
/- The down projection of the feed-forward block: the tiled product is the whole product. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Reference3Ideal.Term

open Cert.Reference3Ideal Cert.Reference3Ideal.Gen

/-- The reference: the whole product. -/
def REF (a : FVec Ideal S8192x11008 .f32) (w : FVec Ideal S11008x4096 .f32) : FVec Ideal S8192x4096 .bf16 :=
  truncf .bf16 (Host.dotGeneral dot_S8192x11008_S11008x4096_S8192x4096_1_0_0_1_n_n none a w) bitsLt_bf16_f32

end Cert.Reference3Ideal.Term

namespace Cert.Kernel3Ideal.Out

open Cert.Kernel3Ideal Cert.Kernel3Ideal.Gen Cert.Reference3Ideal.Term

variable (m : (ℓ : Loc nD τ sig) → Buf (Elt Ideal) ℓ)

theorem places : ∀ t : Fin cfg0.N, win0_0.index t = ![t.val / 8, 0]
    ∧ win0_1.index t = ![0, t.val % 8]
    ∧ win0_2.index t = ![t.val / 8, t.val % 8] :=
  (by decide +kernel : ∀ t : Fin grid0.N, _)

theorem point (c : Dev nD) (t : Fin cfg0.N) (y) :
    k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, places t]

/-- The result array is the whole product. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

/-- Both programs run, and from equal arguments their results are equal. -/
theorem algebraic : Cert.algebraic_Kernel3Ideal_Reference3Ideal := by
  intro m ρ m' ρ' _ hagree
  refine ⟨fun c => REF (m ((c : Thread nD τ).loc main_arg0)) (m ((c : Thread nD τ).loc main_arg1)), ?_, ?_⟩
  · exact (θ_run Cert.Kernel3Ideal.defs _ _).mono (fun r h c => ⟨(h c).1.trans (final m c), (h c).2⟩)
      (Cert.Kernel3Ideal.Value.run_blocks (F := Ideal) m ρ)
  · refine (θ_run Cert.Reference3Ideal.defs _ _).mono (fun r h c => ⟨?_, (h c).2⟩)
      (Cert.Reference3Ideal.Value.run (F := Ideal) m' ρ')
    · obtain ⟨h0, h1⟩ := hagree c
      refine (h c).1.trans ?_
      show REF (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
        = REF (m ((c : Thread nD τ).loc main_arg0)) (m ((c : Thread nD τ).loc main_arg1))
      rw [h0, h1]

end Cert.Kernel3Ideal.Out

end
-- ==== Proof.Residual.lean ====
/- The residual step: the two normalised branches added to the stream, and the next normalised input. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Reference4Ideal.Term

open Cert.Reference4Ideal Cert.Reference4Ideal.Gen

/-- The reference's normalisation of the rows, scaled by `g`. -/
def rms (x : FVec Ideal S8192x4096 .f32) (g : FVec Ideal S4096 .f32) : FVec Ideal S8192x4096 .f32 :=
  mulf (mulf x (broadcastInDim S8192x4096 ![0, 1] bcast_S8192x1_S8192x4096_0_1 (Host.rsqrt (addf (Host.divf
    (broadcastInDim S8192x1 ![0] bcast_S8192_S8192x1_0 (Host.reduceAdd (mulf x x) (constant S_ .f32 0x00000000#32) reducesTo_S8192x4096_S8192_d1 h_S_))
    (broadcastInDim S8192x1 ![] bcast_S_S8192x1 (constant S_ .f32 0x45800000#32)))
    (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))

/-- The stream after both branches. -/
def X (x a f : FVec Ideal S8192x4096 .f32) (ga gf : FVec Ideal S4096 .f32) : FVec Ideal S8192x4096 .f32 :=
  addf (addf x (rms a ga)) (rms f gf)

/-- The next layer's normalised input. -/
def H (x a f : FVec Ideal S8192x4096 .f32) (ga gf gn : FVec Ideal S4096 .f32) : FVec Ideal S8192x4096 .bf16 :=
  truncf .bf16 (rms (X x a f ga gf) gn) bitsLt_bf16_f32

end Cert.Reference4Ideal.Term

namespace Cert.Kernel4Ideal.Out

open Cert.Kernel4Ideal Cert.Kernel4Ideal.Gen Cert.Reference4Ideal.Term

variable (m : (ℓ : Loc nD τ sig) → Buf (Elt Ideal) ℓ)

theorem places : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![t.val, 0]
    ∧ win0_7.index t = ![t.val, 0] :=
  (by decide +kernel : ∀ t : Fin grid0.N, _)

theorem point_x (c : Dev nD) (t : Fin cfg0.N) (y) :
    k0_pay2 (iblk m c 0 t) (iblk m c 1 t) (iblk m c 3 t) (iblk m c 2 t) (iblk m c 4 t) y
      = X (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay2, X, rms]
  blk_point [iblk, V, places t]

theorem final_x (c : Dev nD) : (dats m 0 c).arrAt 6 cfg0.N = X (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]; frame_out
  exact point_x m c t y

theorem point_h (c : Dev nD) (t : Fin cfg0.N) (y) :
    k0_pay1 (k0_pay2 (iblk m c 0 t) (iblk m c 1 t) (iblk m c 3 t) (iblk m c 2 t) (iblk m c 4 t))
      (k0_pay3 (iblk m c 0 t) (iblk m c 1 t) (iblk m c 3 t) (iblk m c 2 t) (iblk m c 4 t)) (iblk m c 5 t) y
      = H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  pointwise [k0_pay1, k0_pay2, k0_pay3, H, X, rms]
  blk_point [iblk, V, places t]

theorem final_h (c : Dev nD) : (dats m 0 c).arrAt 7 cfg0.N = H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]; frame_out
  exact point_h m c t y

/-- Both programs run, and from equal arguments their results are equal. -/
theorem algebraic : Cert.algebraic_Kernel4Ideal_Reference4Ideal := by
  intro m ρ m' ρ' _ hagree
  refine ⟨fun c => X (m ((c : Thread nD τ).loc main_arg0)) (m ((c : Thread nD τ).loc main_arg1)) (m ((c : Thread nD τ).loc main_arg2)) (m ((c : Thread nD τ).loc main_arg3)) (m ((c : Thread nD τ).loc main_arg4)), fun c => H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · exact (θ_run Cert.Kernel4Ideal.defs _ _).mono (fun r h c => ⟨(h c).1.trans (final_x m c), (h c).2.1.trans (final_h m c), (h c).2.2⟩)
      (Cert.Kernel4Ideal.Value.run_blocks (F := Ideal) m ρ)
  · refine (θ_run Cert.Reference4Ideal.defs _ _).mono (fun r h c => ⟨?_, ?_, (h c).2.2⟩)
      (Cert.Reference4Ideal.Value.run (F := Ideal) m' ρ')
    · obtain ⟨h0, h1, h2, h3, h4, h5⟩ := hagree c
      refine (h c).1.trans ?_
      show X (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
        = X (m ((c : Thread nD τ).loc main_arg0)) (m ((c : Thread nD τ).loc main_arg1)) (m ((c : Thread nD τ).loc main_arg2)) (m ((c : Thread nD τ).loc main_arg3)) (m ((c : Thread nD τ).loc main_arg4))
      rw [h0, h1, h2, h3, h4]
    · obtain ⟨h0, h1, h2, h3, h4, h5⟩ := hagree c
      refine (h c).2.1.trans ?_
      show H (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5))
        = H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      rw [h0, h1, h2, h3, h4, h5]

end Cert.Kernel4Ideal.Out

end
-- ==== Proof.OutProj.lean ====
/- The output projection: the four branches normalised side by side, and the tiled product. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Reference5Ideal.Term

open Cert.Reference5Ideal Cert.Reference5Ideal.Gen

/-- The reference's normalisation of one branch's rows, scaled by `g`. -/
def rms (x : FVec Ideal S8192x1024 .f32) (g : FVec Ideal S1024 .f32) : FVec Ideal S8192x1024 .f32 :=
  mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))

/-- The four normalised branches side by side. -/
def CAT (ya yb yc yd : FVec Ideal S8192x1024 .f32) (g : FVec Ideal S4096 .f32) : FVec Ideal S8192x4096 .f32 :=
  concatenate S8192x4096 1 [⟨S8192x1024, rms ya (extractStridedSlice S1024 ![0] g slices_S4096_S1024_0)⟩,
    ⟨S8192x1024, rms yb (extractStridedSlice S1024 ![1024] g slices_S4096_S1024_1024)⟩,
    ⟨S8192x1024, rms yc (extractStridedSlice S1024 ![2048] g slices_S4096_S1024_2048)⟩,
    ⟨S8192x1024, rms yd (extractStridedSlice S1024 ![3072] g slices_S4096_S1024_3072)⟩] concatenates_S8192x1024_S8192x1024_S8192x1024_S8192x1024_S8192x4096_d1

/-- Rows times the first layer's weight. -/
def PROJ (h : FVec Ideal S8192x4096 .f32) (w : FVec Ideal S2x4096x4096 .f32) : FVec Ideal S8192x4096 .bf16 :=
  truncf .bf16 (Host.dotGeneral dot_S8192x4096_S4096x4096_S8192x4096_1_0_0_1_n_n none h
    (shapeCast _ (extractStridedSlice S1x4096x4096 ![0, 0, 0] w slices_S2x4096x4096_S1x4096x4096_0_0_0) shapeCasts_S1x4096x4096_S4096x4096)) bitsLt_bf16_f32

/-- The reference: the normalised branches times the first layer's weight. -/
def REF (ya yb yc yd : FVec Ideal S8192x1024 .f32) (g : FVec Ideal S4096 .f32) (w : FVec Ideal S2x4096x4096 .f32) :
    FVec Ideal S8192x4096 .bf16 := PROJ (CAT ya yb yc yd g) w

end Cert.Reference5Ideal.Term

namespace Cert.Kernel5Ideal.Out

open Cert.Kernel5Ideal Cert.Kernel5Ideal.Gen Cert.Reference5Ideal.Term

variable (m : (ℓ : Loc nD τ sig) → Buf (Elt Ideal) ℓ)

theorem places : ∀ t : Fin cfg0.N, win0_0.index t = ![t.val / 8, 0]
    ∧ win0_1.index t = ![t.val / 8, 0]
    ∧ win0_2.index t = ![t.val / 8, 0]
    ∧ win0_3.index t = ![t.val / 8, 0]
    ∧ win0_4.index t = ![0, 0]
    ∧ win0_5.index t = ![0, 0, t.val % 8]
    ∧ win0_6.index t = ![t.val / 8, t.val % 8] :=
  (by decide +kernel : ∀ t : Fin grid0.N, _)

/-- The rows a row of points works on: the rows of the whole, from `1024 · (t / 8)`. -/
def rowsOf (C : FVec Ideal S8192x4096 .f32) (t : Fin cfg0.N) : FVec Ideal S1024x4096 .bf16 := fun y =>
  C (ix2 ⟨1024 * (t.val / 8) + (y 0).val, by have h1 : t.val < 64 := t.isLt; have h2 : (y 0).val < 1024 := (y 0).isLt; omega⟩ ⟨(y 1).val, (y 1).isLt⟩)

/-- The normalised rows of a row of points. -/
def ROWS (c : Dev nD) (t : Fin cfg0.N) : FVec Ideal S1024x4096 .bf16 := rowsOf (CAT (m ((c : Thread nD τ).loc main_arg0)) (m ((c : Thread nD τ).loc main_arg1)) (m ((c : Thread nD τ).loc main_arg2)) (m ((c : Thread nD τ).loc main_arg3)) (m ((c : Thread nD τ).loc main_arg4))) t

theorem iblk_4 (c : Dev nD) (t : Fin cfg0.N) (k : Fin 4096) : iblk m c 4 t (ix2 0 k) = (m ((c : Thread nD τ).loc main_arg4)) (ix1 k) := by
  have key : ∀ (v : FVec Ideal S4096 .f32) (i : S1x4096.Idx), (shapeCast S1x4096 v shapeCasts_S4096_S1x4096) i = v (ix1 (i 1)) := by
    intro v i
    pointwise
  refine (key _ _).trans (congrArg _ ?_)
  blk_point [places t]

set_option maxHeartbeats 4000000 in
/-- At the first point of a row of points the scratch is filled with the normalised rows. -/
theorem scratch_A (c : Dev nD) (t : Fin cfg0.N) (h0 : t.val % 8 = 0) : (outsAt0 m c t.val t.isLt).2 = ROWS m c t := by
  rw [outsAt0_A m c t h0]; dsimp only
  funext y
  frame_out
  canon_tiles x hx
  all_goals pointwise [k0_pay1, k0_pay3, k0_pay4, k0_pay5, k0_pay6, k0_pay7, ROWS, rowsOf, CAT, rms, hx0, hx1]
  · rw [dif_neg (by omega), dif_neg (by omega), dif_neg (by omega), iblk_4]
    simp only [show 3072 + (x 1).val - 1024 - 1024 - 1024 = (x 1).val by omega]
    blk_point [iblk, V, places t]
  · rw [dif_neg (by omega), dif_neg (by omega), dif_pos (by omega), iblk_4]
    simp only [show 2048 + (x 1).val - 1024 - 1024 = (x 1).val by omega]
    blk_point [iblk, V, places t]
  all_goals
    rw [iblk_4]
    blk_point [iblk, V, places t]

theorem scratch (c : Dev nD) (n : ℕ) : ∀ hn : n < cfg0.N, (outsAt0 m c n hn).2 = ROWS m c ⟨n, hn⟩ := by
  induction n with
  | zero => exact fun hn => scratch_A m c ⟨0, hn⟩ rfl
  | succ n ih =>
    intro hn
    by_cases h : (n + 1) % 8 = 0
    · exact scratch_A m c ⟨n + 1, hn⟩ h
    · rw [outsAt0_B m c ⟨n + 1, hn⟩ h]; dsimp only
      refine Eq.trans (b := (outsAt0 m c n (Nat.lt_of_succ_lt hn)).2) ?_ ((ih _).trans ?_)
      · rfl
      · unfold ROWS rowsOf
        have e : (n + 1) / 8 = n / 8 := by omega
        simp only [e]

/-- The product of rows with a column block is the whole product there. -/
theorem point_of (C : FVec Ideal S8192x4096 .f32) (c : Dev nD) (t : Fin cfg0.N) (y) :
    k0_pay2 (rowsOf C t) (iblk m c 5 t) y = PROJ C (m ((c : Thread nD τ).loc main_arg5)) (((cfg0.win 6).blk t).view.emb y) := by
  pointwise [k0_pay2, PROJ, rowsOf]
  blk_point [iblk, V, places t]

theorem point_rows (c : Dev nD) (t : Fin cfg0.N) (y) :
    k0_pay2 (ROWS m c t) (iblk m c 5 t) y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) :=
  point_of m _ c t y

theorem point_A (c : Dev nD) (t : Fin cfg0.N) (h0 : t.val % 8 = 0) (y) :
    (outsAt0 m c t.val t.isLt).1 y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  have hs := scratch_A m c t h0
  rw [outsAt0_A m c t h0] at hs ⊢; dsimp only at hs ⊢
  refine Eq.trans ?_ (point_rows m c t y)
  rw [← hs]
  frame_out
  rw [View.readCov_eq_canon']
  exact congrArg (fun z => k0_pay2 z (iblk m c 5 t) y)
    (View.ld_unit_zero (by funext a; fin_cases a <;> rfl) (inb := inb_S1024x4096_S1024x4096_0_0) _)

theorem rows_prev (c : Dev nD) (t : Fin cfg0.N) (h0 : ¬t.val % 8 = 0) :
    ROWS m c ⟨t.val - 1, Nat.lt_of_le_of_lt (Nat.sub_le _ _) t.isLt⟩ = ROWS m c t := by
  unfold ROWS rowsOf
  have e : (t.val - 1) / 8 = t.val / 8 := by omega
  simp only [e]

theorem point_B (c : Dev nD) (t : Fin cfg0.N) (h0 : ¬t.val % 8 = 0) (y) :
    (outsAt0 m c t.val t.isLt).1 y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  rw [outsAt0_B m c t h0]; dsimp only
  refine Eq.trans ?_ (point_rows m c t y)
  frame_out
  rw [scratch, rows_prev m c t h0]
  exact congrArg (fun z => k0_pay2 z (iblk m c 5 t) y) (Memref.IsWhole.read_unread _ _)

theorem final (c : Dev nD) : (dats m 0 c).arrAt 6 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]
  by_cases h : t.val % 8 = 0
  · exact point_A m c t h y
  · exact point_B m c t h y

/-- Both programs run, and from equal arguments their results are equal. -/
theorem algebraic : Cert.algebraic_Kernel5Ideal_Reference5Ideal := by
  intro m ρ m' ρ' _ hagree
  refine ⟨fun c => REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · exact (θ_run Cert.Kernel5Ideal.defs _ _).mono (fun r h c => ⟨(h c).1.trans (final m c), (h c).2⟩)
      (Cert.Kernel5Ideal.Value.run_blocks (F := Ideal) m ρ)
  · refine (θ_run Cert.Reference5Ideal.defs _ _).mono (fun r h c => ⟨?_, (h c).2⟩)
      (Cert.Reference5Ideal.Value.run (F := Ideal) m' ρ')
    · obtain ⟨h0, h1, h2, h3, h4, h5⟩ := hagree c
      refine (h c).1.trans ?_
      show REF (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5))
        = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      rw [h0, h1, h2, h3, h4, h5]

end Cert.Kernel5Ideal.Out

end
-- ==== Proof.InProj.lean ====
/- The input projection's values: every column block of the product is stored, the query columns scaled, and the blocks
   beyond the two results are sliced off; the rounded copy of the output weights is the weights. -/
module

public import proofs.«01_k».proof.Defs
public import proofs.«01_k».proof.Proof.Gen.Kernel6Ideal.Frame
public import proofs.«01_k».proof.Proof.Gen.Reference6Ideal.Run
public import Idealize.ShloMosaic.Lib.Pipeline.ValueKit
public import Idealize.ShloMosaic.Lib.StableHlo.Run
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Reference6Ideal.Term

open Cert.Reference6Ideal Cert.Reference6Ideal.Gen

/-- The product of the rows with the first layer's weight. -/
def PROD (h : FVec Ideal S8192x4096 .f32) (w : FVec Ideal S2x4096x10240 .f32) : FVec Ideal S8192x10240 .f32 :=
  Host.dotGeneral dot_S8192x4096_S4096x10240_S8192x10240_1_0_0_1_n_n none h
    (shapeCast _ (extractStridedSlice S1x4096x10240 ![0, 0, 0] w slices_S2x4096x10240_S1x4096x10240_0_0_0) shapeCasts_S1x4096x10240_S4096x10240)

/-- The scale of the query columns. -/
def SCALE : FVec Ideal S_ .f32 := (Host.divf (Host.divf (constant S_ .f32 0x3F800000#32) (Host.sqrt (constant S_ .f32 0x43000000#32))) (Host.log (constant S_ .f32 0x40000000#32)))

/-- The query, key and value columns, the query columns scaled. -/
def QKV (P : FVec Ideal S8192x10240 .f32) : FVec Ideal S8192x9216 .bf16 :=
  truncf .bf16 ((concatenate S8192x9216 1 [⟨S8192x1024, (mulf (extractStridedSlice S8192x1024 ![0, 0] P slices_S8192x10240_S8192x1024_0_0) (broadcastInDim S8192x1024 ![] bcast_S_S8192x1024 SCALE))⟩,
    ⟨S8192x1024, (extractStridedSlice S8192x1024 ![0, 1024] P slices_S8192x10240_S8192x1024_0_1024)⟩,
    ⟨S8192x1024, (extractStridedSlice S8192x1024 ![0, 2048] P slices_S8192x10240_S8192x1024_0_2048)⟩,
    ⟨S8192x1024, (mulf (extractStridedSlice S8192x1024 ![0, 3072] P slices_S8192x10240_S8192x1024_0_3072) (broadcastInDim S8192x1024 ![] bcast_S_S8192x1024 (Host.negf SCALE)))⟩,
    ⟨S8192x1024, (extractStridedSlice S8192x1024 ![0, 4096] P slices_S8192x10240_S8192x1024_0_4096)⟩,
    ⟨S8192x1024, (extractStridedSlice S8192x1024 ![0, 5120] P slices_S8192x10240_S8192x1024_0_5120)⟩,
    ⟨S8192x1024, (mulf (extractStridedSlice S8192x1024 ![0, 6144] P slices_S8192x10240_S8192x1024_0_6144) (broadcastInDim S8192x1024 ![] bcast_S_S8192x1024 SCALE))⟩,
    ⟨S8192x1024, (extractStridedSlice S8192x1024 ![0, 7168] P slices_S8192x10240_S8192x1024_0_7168)⟩,
    ⟨S8192x1024, (extractStridedSlice S8192x1024 ![0, 8192] P slices_S8192x10240_S8192x1024_0_8192)⟩]
    concatenates_S8192x1024_S8192x1024_S8192x1024_S8192x1024_S8192x1024_S8192x1024_S8192x1024_S8192x1024_S8192x1024_S8192x9216_d1 : FVec Ideal S8192x9216 .f32)) bitsLt_bf16_f32

/-- The columns of the pooling mixer. -/
def POOL (P : FVec Ideal S8192x10240 .f32) : FVec Ideal S8192x1024 .f32 :=
  extractStridedSlice S8192x1024 ![0, 9216] P slices_S8192x10240_S8192x1024_0_9216

/-- The rounded output weights. -/
def WOUT (w : FVec Ideal S2x4096x4096 .f32) : FVec Ideal S8192x4096 .bf16 :=
  truncf .bf16 (shapeCast _ w shapeCasts_S2x4096x4096_S8192x4096) bitsLt_bf16_f32

/-- The scale, as a real number. -/
def qs : ℝ := (Real.sqrt 128)⁻¹ * (Real.log 2)⁻¹

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem div_coe' (x y : ℝ) (hy : 0 < y) : Ideal.div (x : EReal) (y : EReal) = ((x * y⁻¹ : ℝ) : EReal) := by
  have h : ((y : ℝ) : EReal) ≠ 0 := by exact_mod_cast hy.ne'
  rw [Ideal.div, if_neg h, EReal.coe_mul, EReal.coe_inv]

theorem scale_at (i : S_.Idx) : SCALE i = ((qs : ℝ) : EReal) := by
  have h1 : Ideal.sqrt ((128 : ℝ) : EReal) = ((Real.sqrt 128 : ℝ) : EReal) := if_neg (by norm_num)
  have h2 : Ideal.log ((2 : ℝ) : EReal) = ((Real.log 2 : ℝ) : EReal) := if_neg (by norm_num)
  show Ideal.div (Ideal.div (Ideal.ofBits .f32 0x3F800000#32) (Ideal.sqrt (Ideal.ofBits .f32 0x43000000#32)))
    (Ideal.log (Ideal.ofBits .f32 0x40000000#32)) = _
  rw [ofBits_128, ofBits_2, h1, h2, Ideal.ofBits_one_f32, show (1 : EReal) = ((1 : ℝ) : EReal) from rfl,
    div_coe' _ _ (Real.sqrt_pos.mpr (by norm_num)), div_coe' _ _ (Real.log_pos (by norm_num)), one_mul]
  rfl

/-- The factor of column block `j` of 512 columns. -/
def fac (j : ℕ) : EReal :=
  if 12 ≤ j ∧ j < 14 then ((qs : ℝ) : EReal) else if 6 ≤ j ∧ j < 8 then (((-1) * qs : ℝ) : EReal)
  else if 0 ≤ j ∧ j < 2 then ((qs : ℝ) : EReal) else 1

set_option maxHeartbeats 2000000 in
theorem qkv_at (P : FVec Ideal S8192x10240 .f32) (r : Fin 8192) (k : Fin 9216) :
    QKV P (ix2 r k) = P (ix2 r ⟨k.val, by omega⟩) * fac (k.val / 512) := by
  have hk := k.isLt
  have neg : -((qs : ℝ) : EReal) = (((-1) * qs : ℝ) : EReal) := by rw [neg_one_mul, EReal.coe_neg]
  pointwise [QKV, scale_at]
  by_cases h0 : k.val < 1024
  · rw [dif_pos h0]
    exact congrArg₂ (fun a b : EReal => a * b) (congrArg P ((ix2_inj ..).2 ⟨rfl, Fin.ext (show _ = k.val by first | omega | (simp only []; done) | (simp only []; omega))⟩))
      (by unfold fac; repeat' (first | rfl | rw [if_pos (by omega)] | rw [if_neg (by omega)]))
  rw [dif_neg h0]
  by_cases h1 : k.val - 1024 < 1024
  · rw [dif_pos h1]
    refine (mul_one _).symm.trans ?_
    exact congrArg₂ (fun a b : EReal => a * b) (congrArg P ((ix2_inj ..).2 ⟨rfl, Fin.ext (show _ = k.val by first | omega | (simp only []; done) | (simp only []; omega))⟩))
      (by unfold fac; repeat' (first | rfl | rw [if_pos (by omega)] | rw [if_neg (by omega)]))
  rw [dif_neg h1]
  by_cases h2 : k.val - 1024 - 1024 < 1024
  · rw [dif_pos h2]
    refine (mul_one _).symm.trans ?_
    exact congrArg₂ (fun a b : EReal => a * b) (congrArg P ((ix2_inj ..).2 ⟨rfl, Fin.ext (show _ = k.val by first | omega | (simp only []; done) | (simp only []; omega))⟩))
      (by unfold fac; repeat' (first | rfl | rw [if_pos (by omega)] | rw [if_neg (by omega)]))
  rw [dif_neg h2]
  by_cases h3 : k.val - 1024 - 1024 - 1024 < 1024
  · rw [dif_pos h3]
    rw [neg]
    exact congrArg₂ (fun a b : EReal => a * b) (congrArg P ((ix2_inj ..).2 ⟨rfl, Fin.ext (show _ = k.val by first | omega | (simp only []; done) | (simp only []; omega))⟩))
      (by unfold fac; repeat' (first | rfl | rw [if_pos (by omega)] | rw [if_neg (by omega)]))
  rw [dif_neg h3]
  by_cases h4 : k.val - 1024 - 1024 - 1024 - 1024 < 1024
  · rw [dif_pos h4]
    refine (mul_one _).symm.trans ?_
    exact congrArg₂ (fun a b : EReal => a * b) (congrArg P ((ix2_inj ..).2 ⟨rfl, Fin.ext (show _ = k.val by first | omega | (simp only []; done) | (simp only []; omega))⟩))
      (by unfold fac; repeat' (first | rfl | rw [if_pos (by omega)] | rw [if_neg (by omega)]))
  rw [dif_neg h4]
  by_cases h5 : k.val - 1024 - 1024 - 1024 - 1024 - 1024 < 1024
  · rw [dif_pos h5]
    refine (mul_one _).symm.trans ?_
    exact congrArg₂ (fun a b : EReal => a * b) (congrArg P ((ix2_inj ..).2 ⟨rfl, Fin.ext (show _ = k.val by first | omega | (simp only []; done) | (simp only []; omega))⟩))
      (by unfold fac; repeat' (first | rfl | rw [if_pos (by omega)] | rw [if_neg (by omega)]))
  rw [dif_neg h5]
  by_cases h6 : k.val - 1024 - 1024 - 1024 - 1024 - 1024 - 1024 < 1024
  · rw [dif_pos h6]
    exact congrArg₂ (fun a b : EReal => a * b) (congrArg P ((ix2_inj ..).2 ⟨rfl, Fin.ext (show _ = k.val by first | omega | (simp only []; done) | (simp only []; omega))⟩))
      (by unfold fac; repeat' (first | rfl | rw [if_pos (by omega)] | rw [if_neg (by omega)]))
  rw [dif_neg h6]
  by_cases h7 : k.val - 1024 - 1024 - 1024 - 1024 - 1024 - 1024 - 1024 < 1024
  · rw [dif_pos h7]
    refine (mul_one _).symm.trans ?_
    exact congrArg₂ (fun a b : EReal => a * b) (congrArg P ((ix2_inj ..).2 ⟨rfl, Fin.ext (show _ = k.val by first | omega | (simp only []; done) | (simp only []; omega))⟩))
      (by unfold fac; repeat' (first | rfl | rw [if_pos (by omega)] | rw [if_neg (by omega)]))
  rw [dif_neg h7]
  refine (mul_one _).symm.trans ?_
  exact congrArg₂ (fun a b : EReal => a * b) (congrArg P ((ix2_inj ..).2 ⟨rfl, Fin.ext (show _ = k.val by first | omega | (simp only []; done) | (simp only []; omega))⟩))
    (by unfold fac; repeat' (first | rfl | rw [if_pos (by omega)] | rw [if_neg (by omega)]))

end Cert.Reference6Ideal.Term

namespace Cert.Kernel6Ideal.Out

open Cert.Kernel6Ideal Cert.Kernel6Ideal.Gen Cert.Reference6Ideal.Term

variable (m : (ℓ : Loc nD τ sig) → Buf (Elt Ideal) ℓ)

theorem places : ∀ t : Fin cfg0.N, win0_0.index t = ![t.val / 20, 0]
    ∧ win0_1.index t = ![0, 0, t.val % 20]
    ∧ win0_2.index t = ![min t.val 127, 0]
    ∧ win0_3.index t = ![t.val / 20, min (t.val % 20) 18]
    ∧ win0_4.index t = ![t.val / 20, if t.val % 20 < 18 then 2 else t.val % 20 - 18]
    ∧ win0_5.index t = ![min t.val 127, 0] :=
  (by decide +kernel : ∀ t : Fin grid0.N, _)

/-- Where the two blocked results are written back. -/
theorem flush_3 : ∀ t : Fin cfg0.N, (cfg0.win 3).flush t = true → t.val % 20 ≠ 18 :=
  (by decide +kernel : ∀ t : Fin grid0.N, win0_3.flush t = true → t.val % 20 ≠ 18)
theorem flush_4 : ∀ t : Fin cfg0.N, (cfg0.win 4).flush t = true → 17 ≤ t.val % 20 :=
  (by decide +kernel : ∀ t : Fin grid0.N, win0_4.flush t = true → 17 ≤ t.val % 20)

/-- The comparisons of the column block with the query blocks. -/
theorem bits : ∀ t : Fin cfg0.N,
    Scalar.andi (Scalar.cmpi .sge (BitVec.ofNat 32 (grid0.coords t 1).val) 0#32) (Scalar.cmpi .slt (BitVec.ofNat 32 (grid0.coords t 1).val) 2#32)
      = (if 0 ≤ t.val % 20 ∧ t.val % 20 < 2 then 1#1 else 0#1)
    ∧ Scalar.andi (Scalar.cmpi .sge (BitVec.ofNat 32 (grid0.coords t 1).val) 6#32) (Scalar.cmpi .slt (BitVec.ofNat 32 (grid0.coords t 1).val) 8#32)
      = (if 6 ≤ t.val % 20 ∧ t.val % 20 < 8 then 1#1 else 0#1)
    ∧ Scalar.andi (Scalar.cmpi .sge (BitVec.ofNat 32 (grid0.coords t 1).val) 12#32) (Scalar.cmpi .slt (BitVec.ofNat 32 (grid0.coords t 1).val) 14#32)
      = (if 12 ≤ t.val % 20 ∧ t.val % 20 < 14 then 1#1 else 0#1) :=
  (by decide +kernel : ∀ t : Fin grid0.N, _)

theorem select_if {p : Prop} [Decidable p] (a b : EReal) :
    Scalar.select (α := EReal) (if p then 1#1 else 0#1) a b = if p then a else b := by
  split <;> rfl

theorem pay3_at (t : Fin cfg0.N) (a : Vec Ideal S1024x4096 .bf16) (b : Vec Ideal S1x4096x512 .f32) (y : S1024x512.Idx) :
    k0_pay3 (F := Ideal) (grid0.coords t) a b y = (show EReal from k0_pay2 a b y) * fac (t.val % 20) := by
  obtain ⟨h0, h1, h2⟩ := bits t
  have e1 : Named.named (F := Ideal) κ "qscale" 0x3E0293EE#32 = ((qs : ℝ) : EReal) :=
    IdealRules.named_const.ideal_named_scalar (φ := .f32) _ _ _ _ rfl
  have e2 : Named.named (F := Ideal) κ "neg_qscale" 0xBE0293EE#32 = (((-1) * qs : ℝ) : EReal) :=
    IdealRules.named_const.ideal_named_scalar (φ := .f32) _ _ _ _ rfl
  unfold k0_pay3
  simp only [h0, h1, h2, e1, e2]
  refine congrArg (fun z : EReal => (show EReal from k0_pay2 a b y) * z) ?_
  refine (select_if _ _).trans ?_
  unfold fac
  refine if_congr Iff.rfl rfl ((select_if _ _).trans (if_congr Iff.rfl rfl ((select_if _ _).trans (if_congr Iff.rfl rfl ?_))))
  exact Ideal.ofBits_one_f32

/-- A point's product is the whole product's block. -/
theorem prod_at (c : Dev nD) (t : Fin cfg0.N) (y : S1024x512.Idx) :
    k0_pay2 (iblk m c 0 t) (iblk m c 1 t) y = PROD (m ((c : Thread nD τ).loc main_arg0)) (m ((c : Thread nD τ).loc main_arg1))
      (ix2 ⟨1024 * (t.val / 20) + (y 0).val, by have h1 : t.val < 160 := t.isLt; have h2 : (y 0).val < 1024 := (y 0).isLt; omega⟩
        ⟨512 * (t.val % 20) + (y 1).val, by have h2 : (y 1).val < 512 := (y 1).isLt; omega⟩) := by
  pointwise [k0_pay2, PROD]
  blk_point [iblk, V, places t]

/-- The column of the product a column of the first result holds. -/
def col (k : ℕ) : ℕ := if k < 9216 then k else k + 512

/-- The first result, with the block beyond its last column. -/
def FULL3 (P : FVec Ideal Cert.Reference6Ideal.S8192x10240 .f32) : FVec Ideal S8192x9728 .bf16 := fun x =>
  (show EReal from P (ix2 (x 0) ⟨col (x 1).val, by have h : (x 1).val < 9728 := (x 1).isLt; unfold col; split <;> omega⟩)) * fac (col (x 1).val / 512)

/-- The column of the product a column of the second result holds. -/
def col4 (k : ℕ) : ℕ := if k < 1024 then 9216 + k else 7680 + k

/-- The second result, with the block beyond its last column. -/
def FULL4 (P : FVec Ideal Cert.Reference6Ideal.S8192x10240 .f32) : FVec Ideal S8192x1536 .f32 := fun x =>
  P (ix2 (x 0) ⟨col4 (x 1).val, by have h : (x 1).val < 1536 := (x 1).isLt; unfold col4; split <;> omega⟩)

theorem emb_3 (t : Fin cfg0.N) (y : S1024x512.Idx) : ((cfg0.win 3).blk t).view.emb y
    = (ix2 ⟨1024 * (t.val / 20) + (y 0).val, by have h1 : t.val < 160 := t.isLt; have h2 : (y 0).val < 1024 := (y 0).isLt; omega⟩
        ⟨512 * min (t.val % 20) 18 + (y 1).val, by have h2 : (y 1).val < 512 := (y 1).isLt; omega⟩ : S8192x9728.Idx) := by
  blk_ext [places t]

theorem emb_4 (t : Fin cfg0.N) (y : S1024x512.Idx) : ((cfg0.win 4).blk t).view.emb y
    = (ix2 ⟨1024 * (t.val / 20) + (y 0).val, by have h1 : t.val < 160 := t.isLt; have h2 : (y 0).val < 1024 := (y 0).isLt; omega⟩
        ⟨512 * (if t.val % 20 < 18 then 2 else t.val % 20 - 18) + (y 1).val, by have h2 : (y 1).val < 512 := (y 1).isLt; split <;> omega⟩ : S8192x1536.Idx) := by
  blk_ext [places t]

theorem final_3 (c : Dev nD) : (dats m 0 c).arrAt 3 cfg0.N = FULL3 (PROD (m ((c : Thread nD τ).loc main_arg0)) (m ((c : Thread nD τ).loc main_arg1))) := by
  refine (dats m 0 c).arrAt_eq_of_covers 3 _ (by decide +kernel) fun t hf y => ?_
  have hf' := flush_3 t hf
  have hy : (y 1).val < 512 := (y 1).isLt
  rw [emb_3 t y, after0_3]
  frame_out
  refine (pay3_at t _ _ y).trans ?_
  rw [prod_at]
  generalize PROD (m ((c : Thread nD τ).loc main_arg0)) (m ((c : Thread nD τ).loc main_arg1)) = P
  have e : col (512 * min (t.val % 20) 18 + (y 1).val) = 512 * (t.val % 20) + (y 1).val := by unfold col; split <;> omega
  refine congrArg₂ (fun a b : EReal => a * b) (congrArg P ((ix2_inj ..).2 ⟨rfl, Fin.ext e.symm⟩)) (congrArg fac ?_)
  show _ = col (512 * min (t.val % 20) 18 + (y 1).val) / 512
  rw [e]; omega

theorem final_4 (c : Dev nD) : (dats m 0 c).arrAt 4 cfg0.N = FULL4 (PROD (m ((c : Thread nD τ).loc main_arg0)) (m ((c : Thread nD τ).loc main_arg1))) := by
  refine (dats m 0 c).arrAt_eq_of_covers 4 _ (by decide +kernel) fun t hf y => ?_
  have hf' := flush_4 t hf
  have hy : (y 1).val < 512 := (y 1).isLt
  rw [emb_4 t y, after0_4]
  frame_out
  rw [prod_at]
  generalize PROD (m ((c : Thread nD τ).loc main_arg0)) (m ((c : Thread nD τ).loc main_arg1)) = P
  have e : col4 (512 * (if t.val % 20 < 18 then 2 else t.val % 20 - 18) + (y 1).val) = 512 * (t.val % 20) + (y 1).val := by
    unfold col4; split <;> split at * <;> omega
  exact congrArg P ((ix2_inj ..).2 ⟨rfl, Fin.ext e.symm⟩)

theorem entry_1 (c : Dev nD) : V m c main_v1 = WOUT (m ((c : Thread nD τ).loc main_arg2)) := by
  have h : V m c main_v1 = shapeCast S8192x4096 (m ((c : Thread nD τ).loc main_arg2)) shapeCasts_S2x4096x4096_S8192x4096 := by
    entry_read
    first | rfl | done
  exact h

theorem point_5 (c : Dev nD) (t : Fin cfg0.N) (y) :
    k0_pay1 (iblk m c 2 t) y = WOUT (m ((c : Thread nD τ).loc main_arg2)) (((cfg0.win 5).blk t).view.emb y) := by
  pointwise [k0_pay1]
  rw [← entry_1]
  blk_ext [iblk, places t]

theorem final_5 (c : Dev nD) : (dats m 0 c).arrAt 5 cfg0.N = WOUT (m ((c : Thread nD τ).loc main_arg2)) := by
  refine (dats m 0 c).arrAt_eq_of_covers 5 _ (by decide +kernel) fun t hf y => ?_
  blk_simp; rw [after0_5]; frame_out
  exact point_5 m c t y

/-- The sliced first result. -/
theorem tail_3 (c : Dev nD) : Pipeline.afterTail₀ cfgs (dats m) 0 (V0 m) [hostOps1] c main_v3 = QKV (PROD (m ((c : Thread nD τ).loc main_arg0)) (m ((c : Thread nD τ).loc main_arg1))) := by
  have h : Pipeline.afterTail₀ cfgs (dats m) 0 (V0 m) [hostOps1] c main_v3
      = extractStridedSlice S8192x9216 ![0, 0] ((dats m 0 c).arrAt 3 cfg0.N) slices_S8192x9728_S8192x9216_0_0 := by
    unfold Pipeline.afterTail₀
    after_results_simp
    exact congrArg (fun z => extractStridedSlice S8192x9216 ![0, 0] z slices_S8192x9728_S8192x9216_0_0)
      (Pipeline.withArrays_arr spec0 (by decide) c (V0 m c) (fun w => (dats m 0 c).arrAt w (cfgs 0).N) 3)
  rw [h, final_3]
  generalize PROD (m ((c : Thread nD τ).loc main_arg0)) (m ((c : Thread nD τ).loc main_arg1)) = P
  funext x
  idx_vars x
  rw [qkv_at]
  pointwise [FULL3]
  have e : col x1.val = x1.val := if_pos x1.isLt
  simp only [e]

/-- The sliced second result. -/
theorem tail_4 (c : Dev nD) : Pipeline.afterTail₀ cfgs (dats m) 0 (V0 m) [hostOps1] c main_v4 = POOL (PROD (m ((c : Thread nD τ).loc main_arg0)) (m ((c : Thread nD τ).loc main_arg1))) := by
  have h : Pipeline.afterTail₀ cfgs (dats m) 0 (V0 m) [hostOps1] c main_v4
      = extractStridedSlice S8192x1024 ![0, 0] ((dats m 0 c).arrAt 4 cfg0.N) slices_S8192x1536_S8192x1024_0_0 := by
    unfold Pipeline.afterTail₀
    after_results_simp
    exact congrArg (fun z => extractStridedSlice S8192x1024 ![0, 0] z slices_S8192x1536_S8192x1024_0_0)
      (Pipeline.withArrays_arr spec0 (by decide) c (V0 m c) (fun w => (dats m 0 c).arrAt w (cfgs 0).N) 4)
  rw [h, final_4]
  generalize PROD (m ((c : Thread nD τ).loc main_arg0)) (m ((c : Thread nD τ).loc main_arg1)) = P
  funext x
  idx_vars x
  pointwise [FULL4, POOL]
  have e : col4 x1.val = 9216 + x1.val := if_pos x1.isLt
  simp only [e]

/-- Both programs run, and from equal arguments their results are equal. -/
theorem algebraic : Cert.algebraic_Kernel6Ideal_Reference6Ideal := by
  intro m ρ m' ρ' _ hagree
  refine ⟨fun c => QKV (PROD (m ((c : Thread nD τ).loc main_arg0)) (m ((c : Thread nD τ).loc main_arg1))), fun c => POOL (PROD (m ((c : Thread nD τ).loc main_arg0)) (m ((c : Thread nD τ).loc main_arg1))), fun c => WOUT (m ((c : Thread nD τ).loc main_arg2)), ?_, ?_⟩
  · refine (θ_run Cert.Kernel6Ideal.defs _ _).mono (fun r h c => ?_) (θ_run_and (run_main (F := Ideal) m ρ) (unchanged (F := Ideal) m ρ))
    exact ⟨((h.1 c).2 main_v3 (Pipeline.mem_restRefs_of main_v3 (by decide) (by decide))).trans (tail_3 m c),
      ((h.1 c).2 main_v4 (Pipeline.mem_restRefs_of main_v4 (by decide) (by decide))).trans (tail_4 m c),
      ((h.1 c).1 5).trans (final_5 m c), h.2 c⟩
  · refine (θ_run Cert.Reference6Ideal.defs _ _).mono (fun r h c => ⟨?_, ?_, ?_, (h c).2.2.2⟩)
      (Cert.Reference6Ideal.Value.run (F := Ideal) m' ρ')
    all_goals obtain ⟨h0, h1, h2⟩ := hagree c
    · refine (h c).1.trans ?_
      unfold Cert.Reference6Ideal.Value.res_main_v24
      show QKV (PROD (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)))
        = QKV (PROD (m ((c : Thread nD τ).loc main_arg0)) (m ((c : Thread nD τ).loc main_arg1)))
      rw [h0, h1]
    · refine (h c).2.1.trans ?_
      show POOL (PROD (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)))
        = POOL (PROD (m ((c : Thread nD τ).loc main_arg0)) (m ((c : Thread nD τ).loc main_arg1)))
      rw [h0, h1]
    · refine (h c).2.2.1.trans ?_
      show WOUT (m' ((c.tc : Thread Cert.Reference6Ideal.nD Cert.Reference6Ideal.τ).loc Cert.Reference6Ideal.main_arg2)) = WOUT (m ((c : Thread nD τ).loc main_arg2))
      rw [h2]

end Cert.Kernel6Ideal.Out

end
-- ==== Proof.PreNorm.lean ====
/- The normalised input of the first layer. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Reference7Ideal.Term

open Cert.Reference7Ideal Cert.Reference7Ideal.Gen

/-- The reference's normalisation of the rows, scaled by `g`. -/
def rms (x : FVec Ideal S8192x4096 .f32) (g : FVec Ideal S4096 .f32) : FVec Ideal S8192x4096 .f32 :=
  mulf (mulf x (broadcastInDim S8192x4096 ![0, 1] bcast_S8192x1_S8192x4096_0_1 (Host.rsqrt (addf (Host.divf
    (broadcastInDim S8192x1 ![0] bcast_S8192_S8192x1_0 (Host.reduceAdd (mulf x x) (constant S_ .f32 0x00000000#32) reducesTo_S8192x4096_S8192_d1 h_S_))
    (broadcastInDim S8192x1 ![] bcast_S_S8192x1 (constant S_ .f32 0x45800000#32)))
    (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))

/-- The normalised input. -/
def H (x : FVec Ideal S8192x4096 .f32) (g : FVec Ideal S4096 .f32) : FVec Ideal S8192x4096 .bf16 :=
  truncf .bf16 (rms x g) bitsLt_bf16_f32

end Cert.Reference7Ideal.Term

namespace Cert.Kernel7Ideal.Out

open Cert.Kernel7Ideal Cert.Kernel7Ideal.Gen Cert.Reference7Ideal.Term

variable (m : (ℓ : Loc nD τ sig) → Buf (Elt Ideal) ℓ)

theorem places : ∀ t : Fin cfg0.N, win0_0.index t = ![t.val, 0]
    ∧ win0_1.index t = ![0, 0]
    ∧ win0_2.index t = ![t.val, 0] :=
  (by decide +kernel : ∀ t : Fin grid0.N, _)

theorem point_h (c : Dev nD) (t : Fin cfg0.N) (y) :
    k0_pay1 (iblk m c 0 t) (iblk m c 1 t) y
      = H (m ((c : Thread nD τ).loc main_arg0)) (m ((c : Thread nD τ).loc main_arg1)) (((cfg0.win 2).blk t).view.emb y) := by
  pointwise [k0_pay1, H, rms]
  blk_point [iblk, V, places t]

theorem final_h (c : Dev nD) : (dats m 0 c).arrAt 2 cfg0.N = H (m ((c : Thread nD τ).loc main_arg0)) (m ((c : Thread nD τ).loc main_arg1)) := by
  refine (dats m 0 c).arrAt_eq_of_covers 2 _ (by decide +kernel) fun t hf y => ?_
  blk_simp; rw [after0_2]; frame_out
  exact point_h m c t y

/-- Both programs run, and from equal arguments their results are equal. -/
theorem algebraic : Cert.algebraic_Kernel7Ideal_Reference7Ideal := by
  intro m ρ m' ρ' _ hagree
  refine ⟨fun c => H (m ((c : Thread nD τ).loc main_arg0)) (m ((c : Thread nD τ).loc main_arg1)), ?_, ?_⟩
  · exact (θ_run Cert.Kernel7Ideal.defs _ _).mono (fun r h c => ⟨(h c).1.trans (final_h m c), (h c).2⟩)
      (Cert.Kernel7Ideal.Value.run_blocks (F := Ideal) m ρ)
  · refine (θ_run Cert.Reference7Ideal.defs _ _).mono (fun r h c => ⟨?_, (h c).2⟩)
      (Cert.Reference7Ideal.Value.run (F := Ideal) m' ρ')
    obtain ⟨h0, h1⟩ := hagree c
    refine (h c).1.trans ?_
    show H (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      = H (m ((c : Thread nD τ).loc main_arg0)) (m ((c : Thread nD τ).loc main_arg1))
    rw [h0, h1]

end Cert.Kernel7Ideal.Out

end
-- ==== Proof.FfnNorm.lean ====
/- The residual after the mixers and the normalised input of the feed-forward part. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Reference8Ideal.Term

open Cert.Reference8Ideal Cert.Reference8Ideal.Gen

/-- The reference's normalisation of the rows, scaled by `g`. -/
def rms (x : FVec Ideal S8192x4096 .f32) (g : FVec Ideal S4096 .f32) : FVec Ideal S8192x4096 .f32 :=
  mulf (mulf x (broadcastInDim S8192x4096 ![0, 1] bcast_S8192x1_S8192x4096_0_1 (Host.rsqrt (addf (Host.divf
    (broadcastInDim S8192x1 ![0] bcast_S8192_S8192x1_0 (Host.reduceAdd (mulf x x) (constant S_ .f32 0x00000000#32) reducesTo_S8192x4096_S8192_d1 h_S_))
    (broadcastInDim S8192x1 ![] bcast_S_S8192x1 (constant S_ .f32 0x45800000#32)))
    (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))

/-- The stream after the mixers' branch, normalised. -/
def H (x a : FVec Ideal S8192x4096 .f32) (ga gf : FVec Ideal S4096 .f32) : FVec Ideal S8192x4096 .bf16 :=
  truncf .bf16 (rms (addf x (rms a ga)) gf) bitsLt_bf16_f32

end Cert.Reference8Ideal.Term

namespace Cert.Kernel8Ideal.Out

open Cert.Kernel8Ideal Cert.Kernel8Ideal.Gen Cert.Reference8Ideal.Term

variable (m : (ℓ : Loc nD τ sig) → Buf (Elt Ideal) ℓ)

theorem places : ∀ t : Fin cfg0.N, win0_0.index t = ![t.val, 0]
    ∧ win0_1.index t = ![t.val, 0]
    ∧ win0_2.index t = ![0, 0]
    ∧ win0_3.index t = ![0, 0]
    ∧ win0_4.index t = ![t.val, 0] :=
  (by decide +kernel : ∀ t : Fin grid0.N, _)

theorem point_h (c : Dev nD) (t : Fin cfg0.N) (y) :
    k0_pay1 (iblk m c 0 t) (iblk m c 1 t) (iblk m c 2 t) (iblk m c 3 t) y
      = H (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, H, rms]
  blk_point [iblk, V, places t]

theorem final_h (c : Dev nD) : (dats m 0 c).arrAt 4 cfg0.N = H (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_h m c t y

/-- Both programs run, and from equal arguments their results are equal. -/
theorem algebraic : Cert.algebraic_Kernel8Ideal_Reference8Ideal := by
  intro m ρ m' ρ' _ hagree
  refine ⟨fun c => H (m ((c : Thread nD τ).loc main_arg0)) (m ((c : Thread nD τ).loc main_arg1)) (m ((c : Thread nD τ).loc main_arg2)) (m ((c : Thread nD τ).loc main_arg3)), ?_, ?_⟩
  · exact (θ_run Cert.Kernel8Ideal.defs _ _).mono (fun r h c => ⟨(h c).1.trans (final_h m c), (h c).2⟩)
      (Cert.Kernel8Ideal.Value.run_blocks (F := Ideal) m ρ)
  · refine (θ_run Cert.Reference8Ideal.defs _ _).mono (fun r h c => ⟨?_, (h c).2⟩)
      (Cert.Reference8Ideal.Value.run (F := Ideal) m' ρ')
    obtain ⟨h0, h1, h2, h3⟩ := hagree c
    refine (h c).1.trans ?_
    show H (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3))
      = H (m ((c : Thread nD τ).loc main_arg0)) (m ((c : Thread nD τ).loc main_arg1)) (m ((c : Thread nD τ).loc main_arg2)) (m ((c : Thread nD τ).loc main_arg3))
    rw [h0, h1, h2, h3]

end Cert.Kernel8Ideal.Out

end
-- ==== Proof.Pool.lean ====
/- The pooling mixer: trailing-window means of four widths minus the token, a linear map per channel group, a scale per channel. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Pool

/-- Element `t` of a column of 2048, zero past its end. -/
def col (f : Fin 2048 → EReal) (t : ℕ) : EReal := if h : t < 2048 then f ⟨t, h⟩ else 0

theorem col_val (f : Fin 2048 → EReal) (t : Fin 2048) : col f t = f t := by simp [col]

/-- The sum of the `n` elements that end at `t`, those before the beginning counted as zero. -/
def win (n : ℕ) (f : ℕ → EReal) (t : ℕ) : EReal := ∑ k ∈ Finset.range n, if k ≤ t then f (t - k) else 0

theorem sitofp_zero : FloatOps.sitofp (F := Ideal) FTy.f32 0#32 = 0 := by
  show (((0#32 : BitVec 32).toInt : ℝ) : EReal) = 0
  simp

/-- Selecting the rows from the `n`-th on. -/
theorem select_ge {α : Type} (t n : ℕ) (ht : t < 2048) (hn : n < 2048) (a b : α) :
    Scalar.select (IntOp.cmpi CmpIPredicate.sge (BitVec.ofNat 32 t) (BitVec.ofNat 32 n)) a b = if n ≤ t then a else b := by
  have ht' : t < 2 ^ (32 - 1) := by omega
  have hn' : n < 2 ^ (32 - 1) := by omega
  unfold Scalar.select
  by_cases h : n ≤ t
  · rw [if_pos h]; exact if_pos ((WordCmp.cmpi_sge_ofNat_eq_one_iff ht' hn').2 h)
  · rw [if_neg h]; exact if_neg fun h' => h ((WordCmp.cmpi_sge_ofNat_eq_one_iff ht' hn').1 h')

theorem win_one (f : ℕ → EReal) (t : ℕ) : win 1 f t = f t := by simp [win]

/-- Twice the width: the window, and the window that ends where it begins. -/
theorem win_double (n : ℕ) (f : ℕ → EReal) (t : ℕ) : win (n + n) f t = win n f t + if n ≤ t then win n f (t - n) else 0 := by
  unfold win
  rw [Finset.sum_range_add]
  refine congrArg _ ?_
  by_cases h : n ≤ t
  · rw [if_pos h]
    refine Finset.sum_congr rfl fun k _ => ?_
    by_cases hk : k ≤ t - n
    · rw [if_pos hk, if_pos (by omega), Nat.sub_sub]
    · rw [if_neg hk, if_neg (by omega)]
  · rw [if_neg h]
    exact Finset.sum_eq_zero fun k _ => if_neg (by omega)

/-- The number of elements in the window of width `n` that ends at `t`. -/
def count (n : BitVec 32) (t : Fin 2048) : EReal :=
  FloatOps.sitofp (F := Ideal) FTy.f32 (IntOp.minsi (BitVec.ofNat 32 t + 1#32) n)

/-- The window's mean minus the token. -/
def dev (n : ℕ) (f : Fin 2048 → EReal) (t : Fin 2048) : EReal :=
  Ideal.div (win n (col f) t) (count (BitVec.ofNat 32 n) t) - f t

end Cert.Pool

namespace Cert.Reference9Ideal.Term

open Cert.Reference9Ideal Cert.Reference9Ideal.Gen Cert.Pool

/-- The tokens 0 places later. -/
def shift0 (x : FVec Ideal S4x2048x256 .f32) : FVec Ideal S4x2048x256 .f32 :=
  pad S4x2048x256 ![0, 0, 0] ![0, 0, 0] ![0, 0, 0] x (sitofp .f32 (constantI S_ 32 0#32)) pads_S4x2048x256_S4x2048x256_000_000_000 h_S_

theorem shift0_at (x : FVec Ideal S4x2048x256 .f32) (b : Fin 4) (t : Fin 2048) (c : Fin 256) :
    shift0 x (ix3 b t c) = if 0 ≤ (t : ℕ) then col (fun s => x (ix3 b s c)) (t - 0) else 0 := by
  pointwise [shift0]
  exact (col_val (fun s => x (ix3 b s c)) t).symm

/-- The tokens 1 places later. -/
def shift1 (x : FVec Ideal S4x2048x256 .f32) : FVec Ideal S4x2048x256 .f32 :=
  extractStridedSlice S4x2048x256 ![0, 0, 0] (pad S4x2049x256 ![0, 1, 0] ![0, 0, 0] ![0, 0, 0] x (sitofp .f32 (constantI S_ 32 0#32)) pads_S4x2048x256_S4x2049x256_000_100_000 h_S_) slices_S4x2049x256_S4x2048x256_0_0_0

theorem shift1_at (x : FVec Ideal S4x2048x256 .f32) (b : Fin 4) (t : Fin 2048) (c : Fin 256) :
    shift1 x (ix3 b t c) = if 1 ≤ (t : ℕ) then col (fun s => x (ix3 b s c)) (t - 1) else 0 := by
  pointwise [shift1]
  by_cases h : 1 ≤ (t : ℕ)
  · rw [dif_pos ⟨h, by omega⟩, if_pos h]
    exact (col_val (fun s => x (ix3 b s c)) ⟨t - 1, by omega⟩).symm
  · rw [dif_neg (fun h' => h h'.1), if_neg h, sitofp_zero]

/-- The tokens 2 places later. -/
def shift2 (x : FVec Ideal S4x2048x256 .f32) : FVec Ideal S4x2048x256 .f32 :=
  extractStridedSlice S4x2048x256 ![0, 0, 0] (pad S4x2050x256 ![0, 2, 0] ![0, 0, 0] ![0, 0, 0] x (sitofp .f32 (constantI S_ 32 0#32)) pads_S4x2048x256_S4x2050x256_000_200_000 h_S_) slices_S4x2050x256_S4x2048x256_0_0_0

theorem shift2_at (x : FVec Ideal S4x2048x256 .f32) (b : Fin 4) (t : Fin 2048) (c : Fin 256) :
    shift2 x (ix3 b t c) = if 2 ≤ (t : ℕ) then col (fun s => x (ix3 b s c)) (t - 2) else 0 := by
  pointwise [shift2]
  by_cases h : 2 ≤ (t : ℕ)
  · rw [dif_pos ⟨h, by omega⟩, if_pos h]
    exact (col_val (fun s => x (ix3 b s c)) ⟨t - 2, by omega⟩).symm
  · rw [dif_neg (fun h' => h h'.1), if_neg h, sitofp_zero]

/-- The tokens 3 places later. -/
def shift3 (x : FVec Ideal S4x2048x256 .f32) : FVec Ideal S4x2048x256 .f32 :=
  extractStridedSlice S4x2048x256 ![0, 0, 0] (pad S4x2051x256 ![0, 3, 0] ![0, 0, 0] ![0, 0, 0] x (sitofp .f32 (constantI S_ 32 0#32)) pads_S4x2048x256_S4x2051x256_000_300_000 h_S_) slices_S4x2051x256_S4x2048x256_0_0_0

theorem shift3_at (x : FVec Ideal S4x2048x256 .f32) (b : Fin 4) (t : Fin 2048) (c : Fin 256) :
    shift3 x (ix3 b t c) = if 3 ≤ (t : ℕ) then col (fun s => x (ix3 b s c)) (t - 3) else 0 := by
  pointwise [shift3]
  by_cases h : 3 ≤ (t : ℕ)
  · rw [dif_pos ⟨h, by omega⟩, if_pos h]
    exact (col_val (fun s => x (ix3 b s c)) ⟨t - 3, by omega⟩).symm
  · rw [dif_neg (fun h' => h h'.1), if_neg h, sitofp_zero]

/-- The tokens 4 places later. -/
def shift4 (x : FVec Ideal S4x2048x256 .f32) : FVec Ideal S4x2048x256 .f32 :=
  extractStridedSlice S4x2048x256 ![0, 0, 0] (pad S4x2052x256 ![0, 4, 0] ![0, 0, 0] ![0, 0, 0] x (sitofp .f32 (constantI S_ 32 0#32)) pads_S4x2048x256_S4x2052x256_000_400_000 h_S_) slices_S4x2052x256_S4x2048x256_0_0_0

theorem shift4_at (x : FVec Ideal S4x2048x256 .f32) (b : Fin 4) (t : Fin 2048) (c : Fin 256) :
    shift4 x (ix3 b t c) = if 4 ≤ (t : ℕ) then col (fun s => x (ix3 b s c)) (t - 4) else 0 := by
  pointwise [shift4]
  by_cases h : 4 ≤ (t : ℕ)
  · rw [dif_pos ⟨h, by omega⟩, if_pos h]
    exact (col_val (fun s => x (ix3 b s c)) ⟨t - 4, by omega⟩).symm
  · rw [dif_neg (fun h' => h h'.1), if_neg h, sitofp_zero]

/-- The tokens 5 places later. -/
def shift5 (x : FVec Ideal S4x2048x256 .f32) : FVec Ideal S4x2048x256 .f32 :=
  extractStridedSlice S4x2048x256 ![0, 0, 0] (pad S4x2053x256 ![0, 5, 0] ![0, 0, 0] ![0, 0, 0] x (sitofp .f32 (constantI S_ 32 0#32)) pads_S4x2048x256_S4x2053x256_000_500_000 h_S_) slices_S4x2053x256_S4x2048x256_0_0_0

theorem shift5_at (x : FVec Ideal S4x2048x256 .f32) (b : Fin 4) (t : Fin 2048) (c : Fin 256) :
    shift5 x (ix3 b t c) = if 5 ≤ (t : ℕ) then col (fun s => x (ix3 b s c)) (t - 5) else 0 := by
  pointwise [shift5]
  by_cases h : 5 ≤ (t : ℕ)
  · rw [dif_pos ⟨h, by omega⟩, if_pos h]
    exact (col_val (fun s => x (ix3 b s c)) ⟨t - 5, by omega⟩).symm
  · rw [dif_neg (fun h' => h h'.1), if_neg h, sitofp_zero]

/-- The tokens 6 places later. -/
def shift6 (x : FVec Ideal S4x2048x256 .f32) : FVec Ideal S4x2048x256 .f32 :=
  extractStridedSlice S4x2048x256 ![0, 0, 0] (pad S4x2054x256 ![0, 6, 0] ![0, 0, 0] ![0, 0, 0] x (sitofp .f32 (constantI S_ 32 0#32)) pads_S4x2048x256_S4x2054x256_000_600_000 h_S_) slices_S4x2054x256_S4x2048x256_0_0_0

theorem shift6_at (x : FVec Ideal S4x2048x256 .f32) (b : Fin 4) (t : Fin 2048) (c : Fin 256) :
    shift6 x (ix3 b t c) = if 6 ≤ (t : ℕ) then col (fun s => x (ix3 b s c)) (t - 6) else 0 := by
  pointwise [shift6]
  by_cases h : 6 ≤ (t : ℕ)
  · rw [dif_pos ⟨h, by omega⟩, if_pos h]
    exact (col_val (fun s => x (ix3 b s c)) ⟨t - 6, by omega⟩).symm
  · rw [dif_neg (fun h' => h h'.1), if_neg h, sitofp_zero]

/-- The tokens 7 places later. -/
def shift7 (x : FVec Ideal S4x2048x256 .f32) : FVec Ideal S4x2048x256 .f32 :=
  extractStridedSlice S4x2048x256 ![0, 0, 0] (pad S4x2055x256 ![0, 7, 0] ![0, 0, 0] ![0, 0, 0] x (sitofp .f32 (constantI S_ 32 0#32)) pads_S4x2048x256_S4x2055x256_000_700_000 h_S_) slices_S4x2055x256_S4x2048x256_0_0_0

theorem shift7_at (x : FVec Ideal S4x2048x256 .f32) (b : Fin 4) (t : Fin 2048) (c : Fin 256) :
    shift7 x (ix3 b t c) = if 7 ≤ (t : ℕ) then col (fun s => x (ix3 b s c)) (t - 7) else 0 := by
  pointwise [shift7]
  by_cases h : 7 ≤ (t : ℕ)
  · rw [dif_pos ⟨h, by omega⟩, if_pos h]
    exact (col_val (fun s => x (ix3 b s c)) ⟨t - 7, by omega⟩).symm
  · rw [dif_neg (fun h' => h h'.1), if_neg h, sitofp_zero]

/-- The tokens 8 places later. -/
def shift8 (x : FVec Ideal S4x2048x256 .f32) : FVec Ideal S4x2048x256 .f32 :=
  extractStridedSlice S4x2048x256 ![0, 0, 0] (pad S4x2056x256 ![0, 8, 0] ![0, 0, 0] ![0, 0, 0] x (sitofp .f32 (constantI S_ 32 0#32)) pads_S4x2048x256_S4x2056x256_000_800_000 h_S_) slices_S4x2056x256_S4x2048x256_0_0_0

theorem shift8_at (x : FVec Ideal S4x2048x256 .f32) (b : Fin 4) (t : Fin 2048) (c : Fin 256) :
    shift8 x (ix3 b t c) = if 8 ≤ (t : ℕ) then col (fun s => x (ix3 b s c)) (t - 8) else 0 := by
  pointwise [shift8]
  by_cases h : 8 ≤ (t : ℕ)
  · rw [dif_pos ⟨h, by omega⟩, if_pos h]
    exact (col_val (fun s => x (ix3 b s c)) ⟨t - 8, by omega⟩).symm
  · rw [dif_neg (fun h' => h h'.1), if_neg h, sitofp_zero]

/-- The tokens 9 places later. -/
def shift9 (x : FVec Ideal S4x2048x256 .f32) : FVec Ideal S4x2048x256 .f32 :=
  extractStridedSlice S4x2048x256 ![0, 0, 0] (pad S4x2057x256 ![0, 9, 0] ![0, 0, 0] ![0, 0, 0] x (sitofp .f32 (constantI S_ 32 0#32)) pads_S4x2048x256_S4x2057x256_000_900_000 h_S_) slices_S4x2057x256_S4x2048x256_0_0_0

theorem shift9_at (x : FVec Ideal S4x2048x256 .f32) (b : Fin 4) (t : Fin 2048) (c : Fin 256) :
    shift9 x (ix3 b t c) = if 9 ≤ (t : ℕ) then col (fun s => x (ix3 b s c)) (t - 9) else 0 := by
  pointwise [shift9]
  by_cases h : 9 ≤ (t : ℕ)
  · rw [dif_pos ⟨h, by omega⟩, if_pos h]
    exact (col_val (fun s => x (ix3 b s c)) ⟨t - 9, by omega⟩).symm
  · rw [dif_neg (fun h' => h h'.1), if_neg h, sitofp_zero]

/-- The tokens 10 places later. -/
def shift10 (x : FVec Ideal S4x2048x256 .f32) : FVec Ideal S4x2048x256 .f32 :=
  extractStridedSlice S4x2048x256 ![0, 0, 0] (pad S4x2058x256 ![0, 10, 0] ![0, 0, 0] ![0, 0, 0] x (sitofp .f32 (constantI S_ 32 0#32)) pads_S4x2048x256_S4x2058x256_000_1000_000 h_S_) slices_S4x2058x256_S4x2048x256_0_0_0

theorem shift10_at (x : FVec Ideal S4x2048x256 .f32) (b : Fin 4) (t : Fin 2048) (c : Fin 256) :
    shift10 x (ix3 b t c) = if 10 ≤ (t : ℕ) then col (fun s => x (ix3 b s c)) (t - 10) else 0 := by
  pointwise [shift10]
  by_cases h : 10 ≤ (t : ℕ)
  · rw [dif_pos ⟨h, by omega⟩, if_pos h]
    exact (col_val (fun s => x (ix3 b s c)) ⟨t - 10, by omega⟩).symm
  · rw [dif_neg (fun h' => h h'.1), if_neg h, sitofp_zero]

/-- The tokens 11 places later. -/
def shift11 (x : FVec Ideal S4x2048x256 .f32) : FVec Ideal S4x2048x256 .f32 :=
  extractStridedSlice S4x2048x256 ![0, 0, 0] (pad S4x2059x256 ![0, 11, 0] ![0, 0, 0] ![0, 0, 0] x (sitofp .f32 (constantI S_ 32 0#32)) pads_S4x2048x256_S4x2059x256_000_1100_000 h_S_) slices_S4x2059x256_S4x2048x256_0_0_0

theorem shift11_at (x : FVec Ideal S4x2048x256 .f32) (b : Fin 4) (t : Fin 2048) (c : Fin 256) :
    shift11 x (ix3 b t c) = if 11 ≤ (t : ℕ) then col (fun s => x (ix3 b s c)) (t - 11) else 0 := by
  pointwise [shift11]
  by_cases h : 11 ≤ (t : ℕ)
  · rw [dif_pos ⟨h, by omega⟩, if_pos h]
    exact (col_val (fun s => x (ix3 b s c)) ⟨t - 11, by omega⟩).symm
  · rw [dif_neg (fun h' => h h'.1), if_neg h, sitofp_zero]

/-- The tokens 12 places later. -/
def shift12 (x : FVec Ideal S4x2048x256 .f32) : FVec Ideal S4x2048x256 .f32 :=
  extractStridedSlice S4x2048x256 ![0, 0, 0] (pad S4x2060x256 ![0, 12, 0] ![0, 0, 0] ![0, 0, 0] x (sitofp .f32 (constantI S_ 32 0#32)) pads_S4x2048x256_S4x2060x256_000_1200_000 h_S_) slices_S4x2060x256_S4x2048x256_0_0_0

theorem shift12_at (x : FVec Ideal S4x2048x256 .f32) (b : Fin 4) (t : Fin 2048) (c : Fin 256) :
    shift12 x (ix3 b t c) = if 12 ≤ (t : ℕ) then col (fun s => x (ix3 b s c)) (t - 12) else 0 := by
  pointwise [shift12]
  by_cases h : 12 ≤ (t : ℕ)
  · rw [dif_pos ⟨h, by omega⟩, if_pos h]
    exact (col_val (fun s => x (ix3 b s c)) ⟨t - 12, by omega⟩).symm
  · rw [dif_neg (fun h' => h h'.1), if_neg h, sitofp_zero]

/-- The tokens 13 places later. -/
def shift13 (x : FVec Ideal S4x2048x256 .f32) : FVec Ideal S4x2048x256 .f32 :=
  extractStridedSlice S4x2048x256 ![0, 0, 0] (pad S4x2061x256 ![0, 13, 0] ![0, 0, 0] ![0, 0, 0] x (sitofp .f32 (constantI S_ 32 0#32)) pads_S4x2048x256_S4x2061x256_000_1300_000 h_S_) slices_S4x2061x256_S4x2048x256_0_0_0

theorem shift13_at (x : FVec Ideal S4x2048x256 .f32) (b : Fin 4) (t : Fin 2048) (c : Fin 256) :
    shift13 x (ix3 b t c) = if 13 ≤ (t : ℕ) then col (fun s => x (ix3 b s c)) (t - 13) else 0 := by
  pointwise [shift13]
  by_cases h : 13 ≤ (t : ℕ)
  · rw [dif_pos ⟨h, by omega⟩, if_pos h]
    exact (col_val (fun s => x (ix3 b s c)) ⟨t - 13, by omega⟩).symm
  · rw [dif_neg (fun h' => h h'.1), if_neg h, sitofp_zero]

/-- The tokens 14 places later. -/
def shift14 (x : FVec Ideal S4x2048x256 .f32) : FVec Ideal S4x2048x256 .f32 :=
  extractStridedSlice S4x2048x256 ![0, 0, 0] (pad S4x2062x256 ![0, 14, 0] ![0, 0, 0] ![0, 0, 0] x (sitofp .f32 (constantI S_ 32 0#32)) pads_S4x2048x256_S4x2062x256_000_1400_000 h_S_) slices_S4x2062x256_S4x2048x256_0_0_0

theorem shift14_at (x : FVec Ideal S4x2048x256 .f32) (b : Fin 4) (t : Fin 2048) (c : Fin 256) :
    shift14 x (ix3 b t c) = if 14 ≤ (t : ℕ) then col (fun s => x (ix3 b s c)) (t - 14) else 0 := by
  pointwise [shift14]
  by_cases h : 14 ≤ (t : ℕ)
  · rw [dif_pos ⟨h, by omega⟩, if_pos h]
    exact (col_val (fun s => x (ix3 b s c)) ⟨t - 14, by omega⟩).symm
  · rw [dif_neg (fun h' => h h'.1), if_neg h, sitofp_zero]

/-- The tokens 15 places later. -/
def shift15 (x : FVec Ideal S4x2048x256 .f32) : FVec Ideal S4x2048x256 .f32 :=
  extractStridedSlice S4x2048x256 ![0, 0, 0] (pad S4x2063x256 ![0, 15, 0] ![0, 0, 0] ![0, 0, 0] x (sitofp .f32 (constantI S_ 32 0#32)) pads_S4x2048x256_S4x2063x256_000_1500_000 h_S_) slices_S4x2063x256_S4x2048x256_0_0_0

theorem shift15_at (x : FVec Ideal S4x2048x256 .f32) (b : Fin 4) (t : Fin 2048) (c : Fin 256) :
    shift15 x (ix3 b t c) = if 15 ≤ (t : ℕ) then col (fun s => x (ix3 b s c)) (t - 15) else 0 := by
  pointwise [shift15]
  by_cases h : 15 ≤ (t : ℕ)
  · rw [dif_pos ⟨h, by omega⟩, if_pos h]
    exact (col_val (fun s => x (ix3 b s c)) ⟨t - 15, by omega⟩).symm
  · rw [dif_neg (fun h' => h h'.1), if_neg h, sitofp_zero]

/-- The sum of 2 tokens. -/
def total2 (x : FVec Ideal S4x2048x256 .f32) : FVec Ideal S4x2048x256 .f32 :=
  addf (addf (broadcastInDim S4x2048x256 ![] bcast_S_S4x2048x256 (constant S_ .f32 0x00000000#32)) (shift0 x)) (shift1 x)

theorem total2_at (x : FVec Ideal S4x2048x256 .f32) (b : Fin 4) (t : Fin 2048) (c : Fin 256) :
    total2 x (ix3 b t c) = win 2 (col fun s => x (ix3 b s c)) t := by
  pointwise [total2]
  simp only [win, Finset.sum_range_succ, Finset.sum_range_zero, zero_add, shift0_at, shift1_at]

/-- The sum of 4 tokens. -/
def total4 (x : FVec Ideal S4x2048x256 .f32) : FVec Ideal S4x2048x256 .f32 :=
  addf (addf (total2 x) (shift2 x)) (shift3 x)

theorem total4_at (x : FVec Ideal S4x2048x256 .f32) (b : Fin 4) (t : Fin 2048) (c : Fin 256) :
    total4 x (ix3 b t c) = win 4 (col fun s => x (ix3 b s c)) t := by
  pointwise [total4, total2]
  simp only [win, Finset.sum_range_succ, Finset.sum_range_zero, zero_add, shift0_at, shift1_at, shift2_at, shift3_at]

/-- The sum of 8 tokens. -/
def total8 (x : FVec Ideal S4x2048x256 .f32) : FVec Ideal S4x2048x256 .f32 :=
  addf (addf (addf (addf (total4 x) (shift4 x)) (shift5 x)) (shift6 x)) (shift7 x)

theorem total8_at (x : FVec Ideal S4x2048x256 .f32) (b : Fin 4) (t : Fin 2048) (c : Fin 256) :
    total8 x (ix3 b t c) = win 8 (col fun s => x (ix3 b s c)) t := by
  pointwise [total8, total4, total2]
  simp only [win, Finset.sum_range_succ, Finset.sum_range_zero, zero_add, shift0_at, shift1_at, shift2_at, shift3_at, shift4_at, shift5_at, shift6_at, shift7_at]

/-- The sum of 16 tokens. -/
def total16 (x : FVec Ideal S4x2048x256 .f32) : FVec Ideal S4x2048x256 .f32 :=
  addf (addf (addf (addf (addf (addf (addf (addf (total8 x) (shift8 x)) (shift9 x)) (shift10 x)) (shift11 x)) (shift12 x)) (shift13 x)) (shift14 x)) (shift15 x)

theorem total16_at (x : FVec Ideal S4x2048x256 .f32) (b : Fin 4) (t : Fin 2048) (c : Fin 256) :
    total16 x (ix3 b t c) = win 16 (col fun s => x (ix3 b s c)) t := by
  pointwise [total16, total8, total4, total2]
  simp only [win, Finset.sum_range_succ, Finset.sum_range_zero, zero_add, shift0_at, shift1_at, shift2_at, shift3_at, shift4_at, shift5_at, shift6_at, shift7_at, shift8_at, shift9_at, shift10_at, shift11_at, shift12_at, shift13_at, shift14_at, shift15_at]

/-- One group: the mean minus the token, through the group's weight. -/
def group (n : BitVec 32) (s x : FVec Ideal S4x2048x256 .f32) (w : FVec Ideal S256x256 .f32) : FVec Ideal S4x2048x1x256 .f32 :=
  broadcastInDim S4x2048x1x256 ![0, 1, 3] bcast_S4x2048x256_S4x2048x1x256_0_1_3 (Host.dotGeneral dot_S4x2048x256_S256x256_S4x2048x256_2_0_01_1_n_n none (subf (Host.divf s
    (broadcastInDim S4x2048x256 ![0, 1, 2] bcast_S1x2048x1_S4x2048x256_0_1_2 (broadcastInDim S1x2048x1 ![1, 2] bcast_S2048x1_S1x2048x1_1_2 (sitofp .f32 (minsi (addi (iotaInDim S2048x1 32 0)
      (broadcastInDim S2048x1 ![] bcast_S_S2048x1 (constantI S_ 32 1#32))) (broadcastInDim S2048x1 ![] bcast_S_S2048x1 (constantI S_ 32 n))))))) x) w)

/-- Group 0 of the channels. -/
def part0 (u : FVec Ideal S8192x1024 .f32) : FVec Ideal S4x2048x256 .f32 :=
  shapeCast _ (extractStridedSlice S4x2048x1x256 ![0, 0, 0, 0] (shapeCast _ u shapeCasts_S8192x1024_S4x2048x4x256) slices_S4x2048x4x256_S4x2048x1x256_0_0_0_0) shapeCasts_S4x2048x1x256_S4x2048x256

/-- Group 0's weight. -/
def weight0 (w : FVec Ideal S2x4x256x256 .f32) : FVec Ideal S256x256 .f32 :=
  shapeCast _ (extractStridedSlice S1x1x256x256 ![0, 0, 0, 0] w slices_S2x4x256x256_S1x1x256x256_0_0_0_0) shapeCasts_S1x1x256x256_S256x256

theorem group0_at (u : FVec Ideal S8192x1024 .f32) (w : FVec Ideal S2x4x256x256 .f32) (b : Fin 4) (t : Fin 2048) (c : Fin 256) :
    group 2#32 (total2 (part0 u)) (part0 u) (weight0 w) (ix4 b t 0 c)
      = ∑ k : Fin 256, dev 2 (fun s => u (ix2 ⟨b * 2048 + s, by omega⟩ ⟨0 * 256 + k, by omega⟩)) t * w (ix4 0 0 k c) := by
  pointwise [group, total2_at, part0, weight0]
  rfl

/-- Group 1 of the channels. -/
def part1 (u : FVec Ideal S8192x1024 .f32) : FVec Ideal S4x2048x256 .f32 :=
  shapeCast _ (extractStridedSlice S4x2048x1x256 ![0, 0, 1, 0] (shapeCast _ u shapeCasts_S8192x1024_S4x2048x4x256) slices_S4x2048x4x256_S4x2048x1x256_0_0_1_0) shapeCasts_S4x2048x1x256_S4x2048x256

/-- Group 1's weight. -/
def weight1 (w : FVec Ideal S2x4x256x256 .f32) : FVec Ideal S256x256 .f32 :=
  shapeCast _ (extractStridedSlice S1x1x256x256 ![0, 1, 0, 0] w slices_S2x4x256x256_S1x1x256x256_0_1_0_0) shapeCasts_S1x1x256x256_S256x256

theorem group1_at (u : FVec Ideal S8192x1024 .f32) (w : FVec Ideal S2x4x256x256 .f32) (b : Fin 4) (t : Fin 2048) (c : Fin 256) :
    group 4#32 (total4 (part1 u)) (part1 u) (weight1 w) (ix4 b t 0 c)
      = ∑ k : Fin 256, dev 4 (fun s => u (ix2 ⟨b * 2048 + s, by omega⟩ ⟨1 * 256 + k, by omega⟩)) t * w (ix4 0 1 k c) := by
  pointwise [group, total4_at, part1, weight1]
  rfl

/-- Group 2 of the channels. -/
def part2 (u : FVec Ideal S8192x1024 .f32) : FVec Ideal S4x2048x256 .f32 :=
  shapeCast _ (extractStridedSlice S4x2048x1x256 ![0, 0, 2, 0] (shapeCast _ u shapeCasts_S8192x1024_S4x2048x4x256) slices_S4x2048x4x256_S4x2048x1x256_0_0_2_0) shapeCasts_S4x2048x1x256_S4x2048x256

/-- Group 2's weight. -/
def weight2 (w : FVec Ideal S2x4x256x256 .f32) : FVec Ideal S256x256 .f32 :=
  shapeCast _ (extractStridedSlice S1x1x256x256 ![0, 2, 0, 0] w slices_S2x4x256x256_S1x1x256x256_0_2_0_0) shapeCasts_S1x1x256x256_S256x256

theorem group2_at (u : FVec Ideal S8192x1024 .f32) (w : FVec Ideal S2x4x256x256 .f32) (b : Fin 4) (t : Fin 2048) (c : Fin 256) :
    group 8#32 (total8 (part2 u)) (part2 u) (weight2 w) (ix4 b t 0 c)
      = ∑ k : Fin 256, dev 8 (fun s => u (ix2 ⟨b * 2048 + s, by omega⟩ ⟨2 * 256 + k, by omega⟩)) t * w (ix4 0 2 k c) := by
  pointwise [group, total8_at, part2, weight2]
  rfl

/-- Group 3 of the channels. -/
def part3 (u : FVec Ideal S8192x1024 .f32) : FVec Ideal S4x2048x256 .f32 :=
  shapeCast _ (extractStridedSlice S4x2048x1x256 ![0, 0, 3, 0] (shapeCast _ u shapeCasts_S8192x1024_S4x2048x4x256) slices_S4x2048x4x256_S4x2048x1x256_0_0_3_0) shapeCasts_S4x2048x1x256_S4x2048x256

/-- Group 3's weight. -/
def weight3 (w : FVec Ideal S2x4x256x256 .f32) : FVec Ideal S256x256 .f32 :=
  shapeCast _ (extractStridedSlice S1x1x256x256 ![0, 3, 0, 0] w slices_S2x4x256x256_S1x1x256x256_0_3_0_0) shapeCasts_S1x1x256x256_S256x256

theorem group3_at (u : FVec Ideal S8192x1024 .f32) (w : FVec Ideal S2x4x256x256 .f32) (b : Fin 4) (t : Fin 2048) (c : Fin 256) :
    group 16#32 (total16 (part3 u)) (part3 u) (weight3 w) (ix4 b t 0 c)
      = ∑ k : Fin 256, dev 16 (fun s => u (ix2 ⟨b * 2048 + s, by omega⟩ ⟨3 * 256 + k, by omega⟩)) t * w (ix4 0 3 k c) := by
  pointwise [group, total16_at, part3, weight3]
  rfl

/-- The reference's result. -/
def OUT (u : FVec Ideal S8192x1024 .f32) (w : FVec Ideal S2x4x256x256 .f32) (sc : FVec Ideal S1024 .f32) : FVec Ideal S8192x1024 .bf16 :=
  truncf .bf16 (mulf (shapeCast _ (concatenate S4x2048x4x256 2 [⟨S4x2048x1x256, group 2#32 (total2 (part0 u)) (part0 u) (weight0 w)⟩, ⟨S4x2048x1x256, group 4#32 (total4 (part1 u)) (part1 u) (weight1 w)⟩, ⟨S4x2048x1x256, group 8#32 (total8 (part2 u)) (part2 u) (weight2 w)⟩, ⟨S4x2048x1x256, group 16#32 (total16 (part3 u)) (part3 u) (weight3 w)⟩] concatenates_S4x2048x1x256_S4x2048x1x256_S4x2048x1x256_S4x2048x1x256_S4x2048x4x256_d2) shapeCasts_S4x2048x4x256_S8192x1024)
    (broadcastInDim S8192x1024 ![0, 1] bcast_S1x1024_S8192x1024_0_1 (broadcastInDim S1x1024 ![1] bcast_S1024_S1x1024_1 sc))) bitsLt_bf16_f32

end Cert.Reference9Ideal.Term

namespace Cert.Kernel9Ideal.Out

open Cert.Kernel9Ideal Cert.Kernel9Ideal.Gen Cert.Reference9Ideal.Term Cert.Pool

/-- The kernel's step from windows of 1 to windows of 2. -/
def step1 (x : FVec Ideal S2048x256 .f32) : FVec Ideal S2048x256 .f32 :=
  addf x (select (broadcastTo S2048x256 (shapeCast S2048x1 (cmpi .sge (iota .tc S2048x1 32 [0] iota_S2048x1_d0_w32) (broadcast S2048x1 1#32)) shapeCasts_S2048x1_S2048x1) broadcasts_S2048x1_S2048x256)
    (dynamicRotate 0 1#32 none x rotates_S2048x256_d0) (broadcast S2048x256 (Scalar.ofBits .f32 0x00000000#32)))

theorem step1_at (x : FVec Ideal S2048x256 .f32) (t : Fin 2048) (k : Fin 256) :
    step1 x (ix2 t k) = x (ix2 t k) + if h : 1 ≤ (t : ℕ) then x (ix2 ⟨t - 1, by omega⟩ k) else 0 := by
  pointwise [step1]
  refine congrArg _ ?_
  rw [select_ge _ _ (by omega) (by omega)]
  split_ifs with h
  · exact congrArg (fun r => x (ix2 r k)) (Fin.ext (by show ((t : ℕ) + 2048 - 1) % 2048 = (t : ℕ) - 1; omega))
  · rfl

/-- The kernel's step from windows of 2 to windows of 4. -/
def step2 (x : FVec Ideal S2048x256 .f32) : FVec Ideal S2048x256 .f32 :=
  addf x (select (broadcastTo S2048x256 (shapeCast S2048x1 (cmpi .sge (iota .tc S2048x1 32 [0] iota_S2048x1_d0_w32) (broadcast S2048x1 2#32)) shapeCasts_S2048x1_S2048x1) broadcasts_S2048x1_S2048x256)
    (dynamicRotate 0 2#32 none x rotates_S2048x256_d0) (broadcast S2048x256 (Scalar.ofBits .f32 0x00000000#32)))

theorem step2_at (x : FVec Ideal S2048x256 .f32) (t : Fin 2048) (k : Fin 256) :
    step2 x (ix2 t k) = x (ix2 t k) + if h : 2 ≤ (t : ℕ) then x (ix2 ⟨t - 2, by omega⟩ k) else 0 := by
  pointwise [step2]
  refine congrArg _ ?_
  rw [select_ge _ _ (by omega) (by omega)]
  split_ifs with h
  · exact congrArg (fun r => x (ix2 r k)) (Fin.ext (by show ((t : ℕ) + 2048 - 2) % 2048 = (t : ℕ) - 2; omega))
  · rfl

/-- The kernel's step from windows of 4 to windows of 8. -/
def step4 (x : FVec Ideal S2048x256 .f32) : FVec Ideal S2048x256 .f32 :=
  addf x (select (broadcastTo S2048x256 (shapeCast S2048x1 (cmpi .sge (iota .tc S2048x1 32 [0] iota_S2048x1_d0_w32) (broadcast S2048x1 4#32)) shapeCasts_S2048x1_S2048x1) broadcasts_S2048x1_S2048x256)
    (dynamicRotate 0 4#32 none x rotates_S2048x256_d0) (broadcast S2048x256 (Scalar.ofBits .f32 0x00000000#32)))

theorem step4_at (x : FVec Ideal S2048x256 .f32) (t : Fin 2048) (k : Fin 256) :
    step4 x (ix2 t k) = x (ix2 t k) + if h : 4 ≤ (t : ℕ) then x (ix2 ⟨t - 4, by omega⟩ k) else 0 := by
  pointwise [step4]
  refine congrArg _ ?_
  rw [select_ge _ _ (by omega) (by omega)]
  split_ifs with h
  · exact congrArg (fun r => x (ix2 r k)) (Fin.ext (by show ((t : ℕ) + 2048 - 4) % 2048 = (t : ℕ) - 4; omega))
  · rfl

/-- The kernel's step from windows of 8 to windows of 16. -/
def step8 (x : FVec Ideal S2048x256 .f32) : FVec Ideal S2048x256 .f32 :=
  addf x (select (broadcastTo S2048x256 (shapeCast S2048x1 (cmpi .sge (iota .tc S2048x1 32 [0] iota_S2048x1_d0_w32) (broadcast S2048x1 8#32)) shapeCasts_S2048x1_S2048x1) broadcasts_S2048x1_S2048x256)
    (dynamicRotate 0 8#32 none x rotates_S2048x256_d0) (broadcast S2048x256 (Scalar.ofBits .f32 0x00000000#32)))

theorem step8_at (x : FVec Ideal S2048x256 .f32) (t : Fin 2048) (k : Fin 256) :
    step8 x (ix2 t k) = x (ix2 t k) + if h : 8 ≤ (t : ℕ) then x (ix2 ⟨t - 8, by omega⟩ k) else 0 := by
  pointwise [step8]
  refine congrArg _ ?_
  rw [select_ge _ _ (by omega) (by omega)]
  split_ifs with h
  · exact congrArg (fun r => x (ix2 r k)) (Fin.ext (by show ((t : ℕ) + 2048 - 8) % 2048 = (t : ℕ) - 8; omega))
  · rfl

theorem steps1_at (x : FVec Ideal S2048x256 .f32) (t : Fin 2048) (k : Fin 256) :
    step1 x (ix2 t k) = win 2 (col fun s => x (ix2 s k)) t := by
  rw [step1_at, show 2 = 1 + 1 from rfl, win_double]
  rw [win_one, win_one, col_val]
  refine congrArg _ ?_
  split_ifs with h
  · exact (col_val (fun s => x (ix2 s k)) ⟨t - 1, by omega⟩).symm
  · rfl

theorem steps2_at (x : FVec Ideal S2048x256 .f32) (t : Fin 2048) (k : Fin 256) :
    step2 (step1 x) (ix2 t k) = win 4 (col fun s => x (ix2 s k)) t := by
  rw [step2_at, show 4 = 2 + 2 from rfl, win_double]
  rw [steps1_at]
  refine congrArg _ ?_
  split_ifs with h
  · exact steps1_at x ⟨t - 2, by omega⟩ k
  · rfl

theorem steps4_at (x : FVec Ideal S2048x256 .f32) (t : Fin 2048) (k : Fin 256) :
    step4 (step2 (step1 x)) (ix2 t k) = win 8 (col fun s => x (ix2 s k)) t := by
  rw [step4_at, show 8 = 4 + 4 from rfl, win_double]
  rw [steps2_at]
  refine congrArg _ ?_
  split_ifs with h
  · exact steps2_at x ⟨t - 4, by omega⟩ k
  · rfl

theorem steps8_at (x : FVec Ideal S2048x256 .f32) (t : Fin 2048) (k : Fin 256) :
    step8 (step4 (step2 (step1 x))) (ix2 t k) = win 16 (col fun s => x (ix2 s k)) t := by
  rw [step8_at, show 16 = 8 + 8 from rfl, win_double]
  rw [steps4_at]
  refine congrArg _ ?_
  split_ifs with h
  · exact steps4_at x ⟨t - 8, by omega⟩ k
  · rfl

/-- The kernel's block: the mean minus the token, through the weight, scaled. -/
def block (n : BitVec 32) (x u : FVec Ideal S2048x256 .f32) (w : Vec Ideal S1x1x256x256 .bf16) (s : Vec Ideal S1x256 .f32) : FVec Ideal S2048x256 .bf16 :=
  truncf .bf16 (mulf (matmul (φ₁ := .bf16) (φ₂ := .bf16) dot_S2048x256_S256x256_S2048x256_1_0_0_1_n_n none (truncf .bf16 (subf (divf x
      (broadcastTo S2048x256 (sitofp .f32 (minsi (addi (iota .tc S2048x1 32 [0] iota_S2048x1_d0_w32) (broadcast S2048x1 1#32)) (broadcast S2048x1 n))) broadcasts_S2048x1_S2048x256)) u) bitsLt_bf16_f32)
      (shapeCast S256x256 w shapeCasts_S1x1x256x256_S256x256 : FVec Ideal S256x256 .bf16) (constant S2048x256 .f32 0x00000000#32))
    (broadcastTo S2048x256 (shapeCast S1x256 s shapeCasts_S1x256_S1x256) broadcasts_S1x256_S2048x256)) bitsLt_bf16_f32

theorem pay0_at (u : FVec Ideal S2048x256 .f32) (w : Vec Ideal S1x1x256x256 .bf16) (s : Vec Ideal S1x256 .f32) (t : Fin 2048) (c : Fin 256) :
    k0_pay1 u w s (ix2 t c)
      = (∑ k : Fin 256, dev 2 (fun r => u (ix2 r k)) t * w (ix4 0 0 k c)) * s (ix2 0 c) := by
  show block 2#32 (step1 u) u w s (ix2 t c) = _
  pointwise [block, steps1_at]
  rfl

theorem pay1_at (u : FVec Ideal S2048x256 .f32) (w : Vec Ideal S1x1x256x256 .bf16) (s : Vec Ideal S1x256 .f32) (t : Fin 2048) (c : Fin 256) :
    k0_pay2 u w s (ix2 t c)
      = (∑ k : Fin 256, dev 4 (fun r => u (ix2 r k)) t * w (ix4 0 0 k c)) * s (ix2 0 c) := by
  show block 4#32 (step2 (step1 u)) u w s (ix2 t c) = _
  pointwise [block, steps2_at]
  rfl

theorem pay2_at (u : FVec Ideal S2048x256 .f32) (w : Vec Ideal S1x1x256x256 .bf16) (s : Vec Ideal S1x256 .f32) (t : Fin 2048) (c : Fin 256) :
    k0_pay3 (k0_pay5 (iota .tc S2048x1 32 [0] iota_S2048x1_d0_w32) u w) (k0_pay6 s) (ix2 t c)
      = (∑ k : Fin 256, dev 8 (fun r => u (ix2 r k)) t * w (ix4 0 0 k c)) * s (ix2 0 c) := by
  show block 8#32 (step4 (step2 (step1 u))) u w s (ix2 t c) = _
  pointwise [block, steps4_at]
  rfl

theorem pay3_at (u : FVec Ideal S2048x256 .f32) (w : Vec Ideal S1x1x256x256 .bf16) (s : Vec Ideal S1x256 .f32) (t : Fin 2048) (c : Fin 256) :
    k0_pay4 (k0_pay7 (iota .tc S2048x1 32 [0] iota_S2048x1_d0_w32) u) w s (ix2 t c)
      = (∑ k : Fin 256, dev 16 (fun r => u (ix2 r k)) t * w (ix4 0 0 k c)) * s (ix2 0 c) := by
  show block 16#32 (step8 (step4 (step2 (step1 u)))) u w s (ix2 t c) = _
  pointwise [block, steps8_at]
  rfl

variable (m : (ℓ : Loc nD τ sig) → Buf (Elt Ideal) ℓ)

theorem places : ∀ t : Fin cfg0.N, win0_0.index t = ![t.val / 4, t.val % 4]
    ∧ win0_1.index t = ![0, t.val % 4, 0, 0]
    ∧ win0_2.index t = ![0, t.val % 4]
    ∧ win0_3.index t = ![t.val / 4, t.val % 4] :=
  (by decide +kernel : ∀ t : Fin grid0.N, _)

/-- The reference's result, element by element, in group 0. -/
theorem OUT0_at (u : FVec Ideal S8192x1024 .f32) (w : FVec Ideal S2x4x256x256 .f32) (sc : FVec Ideal S1024 .f32) (b : Fin 4) (t : Fin 2048) (c : Fin 256) :
    OUT u w sc (ix2 ⟨b * 2048 + t, by omega⟩ ⟨0 * 256 + c, by omega⟩)
      = (∑ k : Fin 256, dev 2 (fun s => u (ix2 ⟨b * 2048 + s, by omega⟩ ⟨0 * 256 + k, by omega⟩)) t * w (ix4 0 0 k c)) * sc (ix1 ⟨0 * 256 + c, by omega⟩) := by
  pointwise [OUT]
  refine congrArg (· * _) ?_
  rw [dif_pos (by omega)]
  have hz : (⟨c / 256, by omega⟩ : Fin 1) = 0 := Subsingleton.elim _ _
  have hc : (⟨c % 256, by omega⟩ : Fin 256) = c := Fin.ext (Nat.mod_eq_of_lt c.isLt)
  rw [hz, hc, group0_at]
  simp only [Nat.zero_mul, Nat.zero_add]

/-- The reference's result, element by element, in group 1. -/
theorem OUT1_at (u : FVec Ideal S8192x1024 .f32) (w : FVec Ideal S2x4x256x256 .f32) (sc : FVec Ideal S1024 .f32) (b : Fin 4) (t : Fin 2048) (c : Fin 256) :
    OUT u w sc (ix2 ⟨b * 2048 + t, by omega⟩ ⟨1 * 256 + c, by omega⟩)
      = (∑ k : Fin 256, dev 4 (fun s => u (ix2 ⟨b * 2048 + s, by omega⟩ ⟨1 * 256 + k, by omega⟩)) t * w (ix4 0 1 k c)) * sc (ix1 ⟨1 * 256 + c, by omega⟩) := by
  pointwise [OUT]
  refine congrArg (· * _) ?_
  rw [dif_neg (by omega), dif_pos (by omega)]
  exact (congrArg (fun z => group 4#32 (total4 (part1 u)) (part1 u) (weight1 w) (ix4 b t z c)) (Subsingleton.elim _ (0 : Fin 1))).trans (group1_at u w b t c)

/-- The reference's result, element by element, in group 2. -/
theorem OUT2_at (u : FVec Ideal S8192x1024 .f32) (w : FVec Ideal S2x4x256x256 .f32) (sc : FVec Ideal S1024 .f32) (b : Fin 4) (t : Fin 2048) (c : Fin 256) :
    OUT u w sc (ix2 ⟨b * 2048 + t, by omega⟩ ⟨2 * 256 + c, by omega⟩)
      = (∑ k : Fin 256, dev 8 (fun s => u (ix2 ⟨b * 2048 + s, by omega⟩ ⟨2 * 256 + k, by omega⟩)) t * w (ix4 0 2 k c)) * sc (ix1 ⟨2 * 256 + c, by omega⟩) := by
  pointwise [OUT]
  refine congrArg (· * _) ?_
  rw [dif_neg (by omega), dif_neg (by omega), dif_pos (by omega)]
  exact (congrArg (fun z => group 8#32 (total8 (part2 u)) (part2 u) (weight2 w) (ix4 b t z c)) (Subsingleton.elim _ (0 : Fin 1))).trans (group2_at u w b t c)

/-- The reference's result, element by element, in group 3. -/
theorem OUT3_at (u : FVec Ideal S8192x1024 .f32) (w : FVec Ideal S2x4x256x256 .f32) (sc : FVec Ideal S1024 .f32) (b : Fin 4) (t : Fin 2048) (c : Fin 256) :
    OUT u w sc (ix2 ⟨b * 2048 + t, by omega⟩ ⟨3 * 256 + c, by omega⟩)
      = (∑ k : Fin 256, dev 16 (fun s => u (ix2 ⟨b * 2048 + s, by omega⟩ ⟨3 * 256 + k, by omega⟩)) t * w (ix4 0 3 k c)) * sc (ix1 ⟨3 * 256 + c, by omega⟩) := by
  pointwise [OUT]
  refine congrArg (· * _) ?_
  rw [dif_neg (by omega), dif_neg (by omega), dif_neg (by omega)]
  exact (congrArg (fun z => group 16#32 (total16 (part3 u)) (part3 u) (weight3 w) (ix4 b t z c)) (Subsingleton.elim _ (0 : Fin 1))).trans (group3_at u w b t c)

theorem point0 (c : Dev nD) (t : Fin cfg0.N) (h : t.val % 4 = 0) (y) :
    k0_pay1 (iblk m c 0 t) (iblk m c 1 t) (iblk m c 2 t) y
      = OUT (m ((c : Thread nD τ).loc main_arg0)) (m ((c : Thread nD τ).loc main_arg1)) (m ((c : Thread nD τ).loc main_arg2)) (((cfg0.win 3).blk t).view.emb y) := by
  have ht : t.val < 16 := lt_of_lt_of_eq t.isLt (by decide +kernel)
  idx_vars y
  rw [pay0_at, show ((cfg0.win 3).blk t).view.emb (ix2 y0 y1) = ix2 ⟨t.val / 4 * 2048 + y0, by omega⟩ ⟨0 * 256 + y1, by omega⟩ from by
    blk_ext [places t], OUT0_at _ _ _ ⟨t.val / 4, by omega⟩]
  blk_point [iblk, V, places t]

theorem point1 (c : Dev nD) (t : Fin cfg0.N) (h : t.val % 4 = 1) (y) :
    k0_pay2 (iblk m c 0 t) (iblk m c 1 t) (iblk m c 2 t) y
      = OUT (m ((c : Thread nD τ).loc main_arg0)) (m ((c : Thread nD τ).loc main_arg1)) (m ((c : Thread nD τ).loc main_arg2)) (((cfg0.win 3).blk t).view.emb y) := by
  have ht : t.val < 16 := lt_of_lt_of_eq t.isLt (by decide +kernel)
  idx_vars y
  rw [pay1_at, show ((cfg0.win 3).blk t).view.emb (ix2 y0 y1) = ix2 ⟨t.val / 4 * 2048 + y0, by omega⟩ ⟨1 * 256 + y1, by omega⟩ from by
    blk_ext [places t], OUT1_at _ _ _ ⟨t.val / 4, by omega⟩]
  blk_point [iblk, V, places t]

theorem point2 (c : Dev nD) (t : Fin cfg0.N) (h : t.val % 4 = 2) (y) :
    k0_pay3 (k0_pay5 (iota .tc S2048x1 32 [0] iota_S2048x1_d0_w32) (iblk m c 0 t) (iblk m c 1 t)) (k0_pay6 (iblk m c 2 t)) y
      = OUT (m ((c : Thread nD τ).loc main_arg0)) (m ((c : Thread nD τ).loc main_arg1)) (m ((c : Thread nD τ).loc main_arg2)) (((cfg0.win 3).blk t).view.emb y) := by
  have ht : t.val < 16 := lt_of_lt_of_eq t.isLt (by decide +kernel)
  idx_vars y
  rw [pay2_at, show ((cfg0.win 3).blk t).view.emb (ix2 y0 y1) = ix2 ⟨t.val / 4 * 2048 + y0, by omega⟩ ⟨2 * 256 + y1, by omega⟩ from by
    blk_ext [places t], OUT2_at _ _ _ ⟨t.val / 4, by omega⟩]
  blk_point [iblk, V, places t]

theorem point3 (c : Dev nD) (t : Fin cfg0.N) (h : t.val % 4 = 3) (y) :
    k0_pay4 (k0_pay7 (iota .tc S2048x1 32 [0] iota_S2048x1_d0_w32) (iblk m c 0 t)) (iblk m c 1 t) (iblk m c 2 t) y
      = OUT (m ((c : Thread nD τ).loc main_arg0)) (m ((c : Thread nD τ).loc main_arg1)) (m ((c : Thread nD τ).loc main_arg2)) (((cfg0.win 3).blk t).view.emb y) := by
  have ht : t.val < 16 := lt_of_lt_of_eq t.isLt (by decide +kernel)
  idx_vars y
  rw [pay3_at, show ((cfg0.win 3).blk t).view.emb (ix2 y0 y1) = ix2 ⟨t.val / 4 * 2048 + y0, by omega⟩ ⟨3 * 256 + y1, by omega⟩ from by
    blk_ext [places t], OUT3_at _ _ _ ⟨t.val / 4, by omega⟩]
  blk_point [iblk, V, places t]

theorem final (c : Dev nD) : (dats m 0 c).arrAt 3 cfg0.N = OUT (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have h4 : t.val % 4 = 0 ∨ t.val % 4 = 1 ∨ t.val % 4 = 2 ∨ t.val % 4 = 3 := by omega
  rcases h4 with h | h | h | h
  · rw [outsAt0_A m c t h (by omega) (by omega) (by omega)]; frame_out; exact point0 m c t h y
  · rw [outsAt0_B m c t (by omega) h (by omega) (by omega)]; frame_out; exact point1 m c t h y
  · rw [outsAt0_C m c t (by omega) (by omega) h (by omega)]; frame_out; exact point2 m c t h y
  · rw [outsAt0_D m c t (by omega) (by omega) (by omega) h]; frame_out; exact point3 m c t h y

/-- Both programs run, and from equal arguments their results are equal. -/
theorem algebraic : Cert.algebraic_Kernel9Ideal_Reference9Ideal := by
  intro m ρ m' ρ' _ hagree
  refine ⟨fun c => OUT (m ((c : Thread nD τ).loc main_arg0)) (m ((c : Thread nD τ).loc main_arg1)) (m ((c : Thread nD τ).loc main_arg2)), ?_, ?_⟩
  · exact (θ_run Cert.Kernel9Ideal.defs _ _).mono (fun r h c => ⟨(h c).1.trans (final m c), (h c).2⟩)
      (Cert.Kernel9Ideal.Value.run_blocks (F := Ideal) m ρ)
  · refine (θ_run Cert.Reference9Ideal.defs _ _).mono (fun r h c => ⟨?_, (h c).2⟩)
      (Cert.Reference9Ideal.Value.run (F := Ideal) m' ρ')
    obtain ⟨h0, h1, h2⟩ := hagree c
    refine (h c).1.trans ?_
    show _ = OUT (m ((c : Thread nD τ).loc main_arg0)) (m ((c : Thread nD τ).loc main_arg1)) (m ((c : Thread nD τ).loc main_arg2))
    rw [← h0, ← h1, ← h2]
    unfold Cert.Reference9Ideal.Value.res_main_v152 Cert.Reference9Ideal.Value.res_main_v143 OUT
    rfl

end Cert.Kernel9Ideal.Out

end
-- ==== Proof.lean ====
module

public import proofs.«01_k».proof.Defs
public import proofs.«01_k».proof.Proof.Gen.Kernel
public import proofs.«01_k».proof.Proof.Gen.KernelIdeal.Skeleton
public import proofs.«01_k».proof.Proof.Gen.KernelIdeal.Frame
public import proofs.«01_k».proof.Proof.Gen.ReferenceIdeal.Run
public import proofs.«01_k».proof.Proof.PreFacts
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal.Value
public import proofs.«01_k».proof.Proof.Gen.Reference9Ideal.Run
public import proofs.«01_k».proof.Proof.Frames
public import proofs.«01_k».proof.Proof.FramesPre
public import proofs.«01_k».proof.Proof.Mixers
public import proofs.«01_k».proof.Proof.Swiglu
public import proofs.«01_k».proof.Proof.Down
public import proofs.«01_k».proof.Proof.Residual
public import proofs.«01_k».proof.Proof.OutProj
public import proofs.«01_k».proof.Proof.InProj
public import proofs.«01_k».proof.Proof.PreNorm
public import proofs.«01_k».proof.Proof.FfnNorm
public import proofs.«01_k».proof.Proof.Pool

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.Gen.facts,
   Cert.Proof.quiescent_Kernel,
   Cert.Proof.quiescent_KernelIdeal,
   Cert.Proof.quiescent_KernelIdeal_pre_finite,
   Cert.Proof.quiescent_ReferenceIdeal,
   Cert.Proof.quiescent_ReferenceIdeal_pre_finite,
   Cert.Proof.quiescent_Kernel2,
   Cert.Proof.quiescent_Kernel2Ideal,
   Cert.Proof.quiescent_Reference2Ideal,
   Cert.Proof.quiescent_Kernel3,
   Cert.Proof.quiescent_Kernel3Ideal,
   Cert.Proof.quiescent_Reference3Ideal,
   Cert.Proof.quiescent_Kernel4,
   Cert.Proof.quiescent_Kernel4Ideal,
   Cert.Proof.quiescent_Reference4Ideal,
   Cert.Proof.quiescent_Kernel5,
   Cert.Proof.quiescent_Kernel5Ideal,
   Cert.Proof.quiescent_Reference5Ideal,
   Cert.Proof.quiescent_Kernel6,
   Cert.Proof.quiescent_Kernel6Ideal,
   Cert.Proof.quiescent_Reference6Ideal,
   Cert.Proof.quiescent_Kernel7,
   Cert.Proof.quiescent_Kernel7Ideal,
   Cert.Proof.quiescent_Reference7Ideal,
   Cert.Proof.quiescent_Kernel8,
   Cert.Proof.quiescent_Kernel8Ideal,
   Cert.Proof.quiescent_Reference8Ideal,
   Cert.Proof.quiescent_Kernel9,
   Cert.Proof.quiescent_Kernel9Ideal,
   Cert.Proof.quiescent_Reference9Ideal,
   ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩,
   Cert.KernelIdeal.Out.algebraic,
   trivial,
   Cert.Kernel2Ideal.Out.algebraic,
   trivial,
   Cert.Kernel3Ideal.Out.algebraic,
   trivial,
   Cert.Kernel4Ideal.Out.algebraic,
   trivial,
   Cert.Kernel5Ideal.Out.algebraic,
   ⟨IdealRules.named_const.statement Cert.Kernel6Ideal.κ "qscale" .f32 0x3E0293EE#32 (((Real.sqrt 128)⁻¹ * (Real.log 2)⁻¹ : ℝ) : EReal) rfl,
    IdealRules.named_const.statement Cert.Kernel6Ideal.κ "neg_qscale" .f32 0xBE0293EE#32 (((-1) * ((Real.sqrt 128)⁻¹ * (Real.log 2)⁻¹) : ℝ) : EReal) rfl⟩,
   Cert.Kernel6Ideal.Out.algebraic,
   trivial,
   Cert.Kernel7Ideal.Out.algebraic,
   trivial,
   Cert.Kernel8Ideal.Out.algebraic,
   trivial,
   Cert.Kernel9Ideal.Out.algebraic⟩

end Cert.Proof

end
